-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unit_gains [hPre_finite_unit_gains : Cert.Pre_finite_unit_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unit_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unit_gains [hPre_finite_unit_gains : Cert.Pre_finite_unit_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unit_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_unit_gains [hKernelIdeal : Cert.KernelIdeal.Facts] [hPre_finite_unit_gains : Cert.Pre_finite_unit_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unit_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_unit_gains [hReferenceIdeal : Cert.ReferenceIdeal.Facts] [hPre_finite_unit_gains : Cert.Pre_finite_unit_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unit_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite_unit_gains [hKernelIdeal : Cert.KernelIdeal.Facts] [hReferenceIdeal : Cert.ReferenceIdeal.Facts] [hPre_finite_unit_gains : Cert.Pre_finite_unit_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unit_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_unit_gains : Cert.Pre_finite_unit_gains.Facts),
    quiescent_Kernel (hKernel := hKernel)
    ∧ quiescent_KernelIdeal (hKernelIdeal := hKernelIdeal)
    ∧ quiescent_KernelIdeal_pre_finite_unit_gains (hKernelIdeal := hKernelIdeal) (hPre_finite_unit_gains := hPre_finite_unit_gains)
    ∧ quiescent_ReferenceIdeal (hReferenceIdeal := hReferenceIdeal)
    ∧ quiescent_ReferenceIdeal_pre_finite_unit_gains (hReferenceIdeal := hReferenceIdeal) (hPre_finite_unit_gains := hPre_finite_unit_gains)
    ∧ preserves_Kernel_KernelIdeal
    ∧ algebraic_KernelIdeal_ReferenceIdeal_pre_finite_unit_gains (hKernelIdeal := hKernelIdeal) (hReferenceIdeal := hReferenceIdeal) (hPre_finite_unit_gains := hPre_finite_unit_gains)
-- ==== Pre_finite_unit_gains.lean ====
abbrev S1x2048x768 : Shape := ⟨3, ![1, 2048, 768]⟩
abbrev S2x768x768 : Shape := ⟨3, ![2, 768, 768]⟩
abbrev S2x768 : Shape := ⟨2, ![2, 768]⟩
abbrev S2x768x1024 : Shape := ⟨3, ![2, 768, 1024]⟩
abbrev S2x1024 : Shape := ⟨2, ![2, 1024]⟩
abbrev S2x1024x768 : Shape := ⟨3, ![2, 1024, 768]⟩
abbrev S768 : Shape := ⟨1, ![768]⟩
abbrev S_ : Shape := ⟨0, ![]⟩

class Facts : Prop where
  bcast_S_S2x768 : S_.BroadcastsInDim S2x768 (![] : Fin 0 → Fin S2x768.rank)
  reducesTo_S2x768_S_d0_1 : S2x768.ReducesTo [0, 1] S_
  h_S_ : 0 < S_.numel
  bcast_S_S768 : S_.BroadcastsInDim S768 (![] : Fin 0 → Fin S768.rank)
  reducesTo_S768_S_d0 : S768.ReducesTo [0] S_
  bcast_S_S1x2048x768 : S_.BroadcastsInDim S1x2048x768 (![] : Fin 0 → Fin S1x2048x768.rank)
  reducesTo_S1x2048x768_S_d0_1_2 : S1x2048x768.ReducesTo [0, 1, 2] S_
  bcast_S_S2x768x768 : S_.BroadcastsInDim S2x768x768 (![] : Fin 0 → Fin S2x768x768.rank)
  reducesTo_S2x768x768_S_d0_1_2 : S2x768x768.ReducesTo [0, 1, 2] S_
  bcast_S_S2x768x1024 : S_.BroadcastsInDim S2x768x1024 (![] : Fin 0 → Fin S2x768x1024.rank)
  reducesTo_S2x768x1024_S_d0_1_2 : S2x768x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x768 : S_.BroadcastsInDim S2x1024x768 (![] : Fin 0 → Fin S2x1024x768.rank)
  reducesTo_S2x1024x768_S_d0_1_2 : S2x1024x768.ReducesTo [0, 1, 2] S_

variable [Facts]

def fn_part5 {F : FTy → Type} [FloatOps F] (main_v10 : IVec S_ 1) (main_v21 : IVec S_ 1) (main_v80 : IVec S_ 1) (main_v81 : FVec F S2x768 .f32) (main_v82 : FVec F S2x768 .f32) : IVec S_ 1 :=
  let main_v83 : IVec S2x768 1 := cmpf .olt main_v81 main_v82
  let main_c_35 : IVec S_ 1 := constantI S_ 1 1#1
  let main_v84 : IVec S_ 1 := (fun x v => Host.reduce IntOp.andi x v reducesTo_S2x768_S_d0_1 h_S_) main_v83 main_c_35
  let main_v85 : IVec S_ 1 := andi main_v80 main_v84
  let main_v86 : IVec S_ 1 := andi main_v85 main_v10
  let main_v87 : IVec S_ 1 := andi main_v86 main_v21
  main_v87

def fn_part4 {F : FTy → Type} [FloatOps F] (main_arg11 : FVec F S2x768x1024 .f32) (main_arg12 : FVec F S2x1024 .f32) (main_arg13 : FVec F S2x1024x768 .f32) (main_arg14 : FVec F S2x768 .f32) (main_v10 : IVec S_ 1) (main_v21 : IVec S_ 1) (main_v65 : IVec S_ 1) : IVec S_ 1 :=
  let main_v66 : FVec F S2x768x1024 .f32 := Host.absf main_arg11
  let main_cst_28 : FVec F S_ .f32 := constant S_ .f32 0x7F800000#32
  let main_v67 : FVec F S2x768x1024 .f32 := broadcastInDim S2x768x1024 ![] bcast_S_S2x768x1024 main_cst_28
  let main_v68 : IVec S2x768x1024 1 := cmpf .olt main_v66 main_v67
  let main_c_29 : IVec S_ 1 := constantI S_ 1 1#1
  let main_v69 : IVec S_ 1 := (fun x v => Host.reduce IntOp.andi x v reducesTo_S2x768x1024_S_d0_1_2 h_S_) main_v68 main_c_29
  let main_v70 : IVec S_ 1 := andi main_v65 main_v69
  let main_v71 : FVec F S2x1024 .f32 := Host.absf main_arg12
  let main_cst_30 : FVec F S_ .f32 := constant S_ .f32 0x7F800000#32
  let main_v72 : FVec F S2x1024 .f32 := broadcastInDim S2x1024 ![] bcast_S_S2x1024 main_cst_30
  let main_v73 : IVec S2x1024 1 := cmpf .olt main_v71 main_v72
  let main_c_31 : IVec S_ 1 := constantI S_ 1 1#1
  let main_v74 : IVec S_ 1 := (fun x v => Host.reduce IntOp.andi x v reducesTo_S2x1024_S_d0_1 h_S_) main_v73 main_c_31
  let main_v75 : IVec S_ 1 := andi main_v70 main_v74
  let main_v76 : FVec F S2x1024x768 .f32 := Host.absf main_arg13
  let main_cst_32 : FVec F S_ .f32 := constant S_ .f32 0x7F800000#32
  let main_v77 : FVec F S2x1024x768 .f32 := broadcastInDim S2x1024x768 ![] bcast_S_S2x1024x768 main_cst_32
  let main_v78 : IVec S2x1024x768 1 := cmpf .olt main_v76 main_v77
  let main_c_33 : IVec S_ 1 := constantI S_ 1 1#1
  let main_v79 : IVec S_ 1 := (fun x v => Host.reduce IntOp.andi x v reducesTo_S2x1024x768_S_d0_1_2 h_S_) main_v78 main_c_33
  let main_v80 : IVec S_ 1 := andi main_v75 main_v79
  let main_v81 : FVec F S2x768 .f32 := Host.absf main_arg14
  let main_cst_34 : FVec F S_ .f32 := constant S_ .f32 0x7F800000#32
  let main_v82 : FVec F S2x768 .f32 := broadcastInDim S2x768 ![] bcast_S_S2x768 main_cst_34
  fn_part5 (F := F) main_v10 main_v21 main_v80 main_v81 main_v82

def fn_part3 {F : FTy → Type} [FloatOps F] (main_arg6 : FVec F S2x768 .f32) (main_arg7 : FVec F S2x768x768 .f32) (main_arg8 : FVec F S2x768 .f32) (main_arg11 : FVec F S2x768x1024 .f32) (main_arg12 : FVec F S2x1024 .f32) (main_arg13 : FVec F S2x1024x768 .f32) (main_arg14 : FVec F S2x768 .f32) (main_v10 : IVec S_ 1) (main_v21 : IVec S_ 1) (main_v45 : IVec S_ 1) (main_v48 : IVec S2x768x768 1) : IVec S_ 1 :=
  let main_c_21 : IVec S_ 1 := constantI S_ 1 1#1
  let main_v49 : IVec S_ 1 := (fun x v => Host.reduce IntOp.andi x v reducesTo_S2x768x768_S_d0_1_2 h_S_) main_v48 main_c_21
  let main_v50 : IVec S_ 1 := andi main_v45 main_v49
  let main_v51 : FVec F S2x768 .f32 := Host.absf main_arg6
  let main_cst_22 : FVec F S_ .f32 := constant S_ .f32 0x7F800000#32
  let main_v52 : FVec F S2x768 .f32 := broadcastInDim S2x768 ![] bcast_S_S2x768 main_cst_22
  let main_v53 : IVec S2x768 1 := cmpf .olt main_v51 main_v52
  let main_c_23 : IVec S_ 1 := constantI S_ 1 1#1
  let main_v54 : IVec S_ 1 := (fun x v => Host.reduce IntOp.andi x v reducesTo_S2x768_S_d0_1 h_S_) main_v53 main_c_23
  let main_v55 : IVec S_ 1 := andi main_v50 main_v54
  let main_v56 : FVec F S2x768x768 .f32 := Host.absf main_arg7
  let main_cst_24 : FVec F S_ .f32 := constant S_ .f32 0x7F800000#32
  let main_v57 : FVec F S2x768x768 .f32 := broadcastInDim S2x768x768 ![] bcast_S_S2x768x768 main_cst_24
  let main_v58 : IVec S2x768x768 1 := cmpf .olt main_v56 main_v57
  let main_c_25 : IVec S_ 1 := constantI S_ 1 1#1
  let main_v59 : IVec S_ 1 := (fun x v => Host.reduce IntOp.andi x v reducesTo_S2x768x768_S_d0_1_2 h_S_) main_v58 main_c_25
  let main_v60 : IVec S_ 1 := andi main_v55 main_v59
  let main_v61 : FVec F S2x768 .f32 := Host.absf main_arg8
  let main_cst_26 : FVec F S_ .f32 := constant S_ .f32 0x7F800000#32
  let main_v62 : FVec F S2x768 .f32 := broadcastInDim S2x768 ![] bcast_S_S2x768 main_cst_26
  let main_v63 : IVec S2x768 1 := cmpf .olt main_v61 main_v62
  let main_c_27 : IVec S_ 1 := constantI S_ 1 1#1
  let main_v64 : IVec S_ 1 := (fun x v => Host.reduce IntOp.andi x v reducesTo_S2x768_S_d0_1 h_S_) main_v63 main_c_27
  let main_v65 : IVec S_ 1 := andi main_v60 main_v64
  fn_part4 (F := F) main_arg11 main_arg12 main_arg13 main_arg14 main_v10 main_v21 main_v65

def fn_part2 {F : FTy → Type} [FloatOps F] (main_arg3 : FVec F S2x768x768 .f32) (main_arg4 : FVec F S2x768 .f32) (main_arg5 : FVec F S2x768x768 .f32) (main_arg6 : FVec F S2x768 .f32) (main_arg7 : FVec F S2x768x768 .f32) (main_arg8 : FVec F S2x768 .f32) (main_arg11 : FVec F S2x768x1024 .f32) (main_arg12 : FVec F S2x1024 .f32) (main_arg13 : FVec F S2x1024x768 .f32) (main_arg14 : FVec F S2x768 .f32) (main_v10 : IVec S_ 1) (main_v21 : IVec S_ 1) (main_v30 : IVec S_ 1) (main_v31 : FVec F S2x768 .f32) : IVec S_ 1 :=
  let main_cst_14 : FVec F S_ .f32 := constant S_ .f32 0x7F800000#32
  let main_v32 : FVec F S2x768 .f32 := broadcastInDim S2x768 ![] bcast_S_S2x768 main_cst_14
  let main_v33 : IVec S2x768 1 := cmpf .olt main_v31 main_v32
  let main_c_15 : IVec S_ 1 := constantI S_ 1 1#1
  let main_v34 : IVec S_ 1 := (fun x v => Host.reduce IntOp.andi x v reducesTo_S2x768_S_d0_1 h_S_) main_v33 main_c_15
  let main_v35 : IVec S_ 1 := andi main_v30 main_v34
  let main_v36 : FVec F S2x768x768 .f32 := Host.absf main_arg3
  let main_cst_16 : FVec F S_ .f32 := constant S_ .f32 0x7F800000#32
  let main_v37 : FVec F S2x768x768 .f32 := broadcastInDim S2x768x768 ![] bcast_S_S2x768x768 main_cst_16
  let main_v38 : IVec S2x768x768 1 := cmpf .olt main_v36 main_v37
  let main_c_17 : IVec S_ 1 := constantI S_ 1 1#1
  let main_v39 : IVec S_ 1 := (fun x v => Host.reduce IntOp.andi x v reducesTo_S2x768x768_S_d0_1_2 h_S_) main_v38 main_c_17
  let main_v40 : IVec S_ 1 := andi main_v35 main_v39
  let main_v41 : FVec F S2x768 .f32 := Host.absf main_arg4
  let main_cst_18 : FVec F S_ .f32 := constant S_ .f32 0x7F800000#32
  let main_v42 : FVec F S2x768 .f32 := broadcastInDim S2x768 ![] bcast_S_S2x768 main_cst_18
  let main_v43 : IVec S2x768 1 := cmpf .olt main_v41 main_v42
  let main_c_19 : IVec S_ 1 := constantI S_ 1 1#1
  let main_v44 : IVec S_ 1 := (fun x v => Host.reduce IntOp.andi x v reducesTo_S2x768_S_d0_1 h_S_) main_v43 main_c_19
  let main_v45 : IVec S_ 1 := andi main_v40 main_v44
  let main_v46 : FVec F S2x768x768 .f32 := Host.absf main_arg5
  let main_cst_20 : FVec F S_ .f32 := constant S_ .f32 0x7F800000#32
  let main_v47 : FVec F S2x768x768 .f32 := broadcastInDim S2x768x768 ![] bcast_S_S2x768x768 main_cst_20
  let main_v48 : IVec S2x768x768 1 := cmpf .olt main_v46 main_v47
  fn_part3 (F := F) main_arg6 main_arg7 main_arg8 main_arg11 main_arg12 main_arg13 main_arg14 main_v10 main_v21 main_v45 main_v48

def fn_part1 {F : FTy → Type} [FloatOps F] (main_arg0 : FVec F S1x2048x768 .f32) (main_arg1 : FVec F S2x768x768 .f32) (main_arg2 : FVec F S2x768 .f32) (main_arg3 : FVec F S2x768x768 .f32) (main_arg4 : FVec F S2x768 .f32) (main_arg5 : FVec F S2x768x768 .f32) (main_arg6 : FVec F S2x768 .f32) (main_arg7 : FVec F S2x768x768 .f32) (main_arg8 : FVec F S2x768 .f32) (main_arg11 : FVec F S2x768x1024 .f32) (main_arg12 : FVec F S2x1024 .f32) (main_arg13 : FVec F S2x1024x768 .f32) (main_arg14 : FVec F S2x768 .f32) (main_arg16 : FVec F S2x768 .f32) (main_arg18 : FVec F S768 .f32) (main_v10 : IVec S_ 1) (main_v13 : IVec S_ 1) (main_v14 : FVec F S2x768 .f32) : IVec S_ 1 :=
  let main_v15 : IVec S2x768 1 := cmpf .oeq main_arg16 main_v14
  let main_c_7 : IVec S_ 1 := constantI S_ 1 1#1
  let main_v16 : IVec S_ 1 := (fun x v => Host.reduce IntOp.andi x v reducesTo_S2x768_S_d0_1 h_S_) main_v15 main_c_7
  let main_v17 : IVec S_ 1 := andi main_v13 main_v16
  let main_cst_8 : FVec F S_ .f32 := constant S_ .f32 0x00000000#32
  let main_v18 : FVec F S768 .f32 := broadcastInDim S768 ![] bcast_S_S768 main_cst_8
  let main_v19 : IVec S768 1 := cmpf .oeq main_arg18 main_v18
  let main_c_9 : IVec S_ 1 := constantI S_ 1 1#1
  let main_v20 : IVec S_ 1 := (fun x v => Host.reduce IntOp.andi x v reducesTo_S768_S_d0 h_S_) main_v19 main_c_9
  let main_v21 : IVec S_ 1 := andi main_v17 main_v20
  let main_v22 : FVec F S1x2048x768 .f32 := Host.absf main_arg0
  let main_cst_10 : FVec F S_ .f32 := constant S_ .f32 0x7F800000#32
  let main_v23 : FVec F S1x2048x768 .f32 := broadcastInDim S1x2048x768 ![] bcast_S_S1x2048x768 main_cst_10
  let main_v24 : IVec S1x2048x768 1 := cmpf .olt main_v22 main_v23
  let main_c_11 : IVec S_ 1 := constantI S_ 1 1#1
  let main_v25 : IVec S_ 1 := (fun x v => Host.reduce IntOp.andi x v reducesTo_S1x2048x768_S_d0_1_2 h_S_) main_v24 main_c_11
  let main_v26 : FVec F S2x768x768 .f32 := Host.absf main_arg1
  let main_cst_12 : FVec F S_ .f32 := constant S_ .f32 0x7F800000#32
  let main_v27 : FVec F S2x768x768 .f32 := broadcastInDim S2x768x768 ![] bcast_S_S2x768x768 main_cst_12
  let main_v28 : IVec S2x768x768 1 := cmpf .olt main_v26 main_v27
  let main_c_13 : IVec S_ 1 := constantI S_ 1 1#1
  let main_v29 : IVec S_ 1 := (fun x v => Host.reduce IntOp.andi x v reducesTo_S2x768x768_S_d0_1_2 h_S_) main_v28 main_c_13
  let main_v30 : IVec S_ 1 := andi main_v25 main_v29
  let main_v31 : FVec F S2x768 .f32 := Host.absf main_arg2
  fn_part2 (F := F) main_arg3 main_arg4 main_arg5 main_arg6 main_arg7 main_arg8 main_arg11 main_arg12 main_arg13 main_arg14 main_v10 main_v21 main_v30 main_v31

def fn {F : FTy → Type} [FloatOps F] (main_arg0 : FVec F S1x2048x768 .f32) (main_arg1 : FVec F S2x768x768 .f32) (main_arg2 : FVec F S2x768 .f32) (main_arg3 : FVec F S2x768x768 .f32) (main_arg4 : FVec F S2x768 .f32) (main_arg5 : FVec F S2x768x768 .f32) (main_arg6 : FVec F S2x768 .f32) (main_arg7 : FVec F S2x768x768 .f32) (main_arg8 : FVec F S2x768 .f32) (main_arg9 : FVec F S2x768 .f32) (main_arg10 : FVec F S2x768 .f32) (main_arg11 : FVec F S2x768x1024 .f32) (main_arg12 : FVec F S2x1024 .f32) (main_arg13 : FVec F S2x1024x768 .f32) (main_arg14 : FVec F S2x768 .f32) (main_arg15 : FVec F S2x768 .f32) (main_arg16 : FVec F S2x768 .f32) (main_arg17 : FVec F S768 .f32) (main_arg18 : FVec F S768 .f32) : IVec S_ 1 :=
  let main_cst : FVec F S_ .f32 := constant S_ .f32 0x3F800000#32
  let main_v0 : FVec F S2x768 .f32 := broadcastInDim S2x768 ![] bcast_S_S2x768 main_cst
  let main_v1 : IVec S2x768 1 := cmpf .oeq main_arg9 main_v0
  let main_c : IVec S_ 1 := constantI S_ 1 1#1
  let main_v2 : IVec S_ 1 := (fun x v => Host.reduce IntOp.andi x v reducesTo_S2x768_S_d0_1 h_S_) main_v1 main_c
  let main_cst_0 : FVec F S_ .f32 := constant S_ .f32 0x3F800000#32
  let main_v3 : FVec F S2x768 .f32 := broadcastInDim S2x768 ![] bcast_S_S2x768 main_cst_0
  let main_v4 : IVec S2x768 1 := cmpf .oeq main_arg15 main_v3
  let main_c_1 : IVec S_ 1 := constantI S_ 1 1#1
  let main_v5 : IVec S_ 1 := (fun x v => Host.reduce IntOp.andi x v reducesTo_S2x768_S_d0_1 h_S_) main_v4 main_c_1
  let main_v6 : IVec S_ 1 := andi main_v2 main_v5
  let main_cst_2 : FVec F S_ .f32 := constant S_ .f32 0x3F800000#32
  let main_v7 : FVec F S768 .f32 := broadcastInDim S768 ![] bcast_S_S768 main_cst_2
  let main_v8 : IVec S768 1 := cmpf .oeq main_arg17 main_v7
  let main_c_3 : IVec S_ 1 := constantI S_ 1 1#1
  let main_v9 : IVec S_ 1 := (fun x v => Host.reduce IntOp.andi x v reducesTo_S768_S_d0 h_S_) main_v8 main_c_3
  let main_v10 : IVec S_ 1 := andi main_v6 main_v9
  let main_cst_4 : FVec F S_ .f32 := constant S_ .f32 0x00000000#32
  let main_v11 : FVec F S2x768 .f32 := broadcastInDim S2x768 ![] bcast_S_S2x768 main_cst_4
  let main_v12 : IVec S2x768 1 := cmpf .oeq main_arg10 main_v11
  let main_c_5 : IVec S_ 1 := constantI S_ 1 1#1
  let main_v13 : IVec S_ 1 := (fun x v => Host.reduce IntOp.andi x v reducesTo_S2x768_S_d0_1 h_S_) main_v12 main_c_5
  let main_cst_6 : FVec F S_ .f32 := constant S_ .f32 0x00000000#32
  let main_v14 : FVec F S2x768 .f32 := broadcastInDim S2x768 ![] bcast_S_S2x768 main_cst_6
  fn_part1 (F := F) main_arg0 main_arg1 main_arg2 main_arg3 main_arg4 main_arg5 main_arg6 main_arg7 main_arg8 main_arg11 main_arg12 main_arg13 main_arg14 main_arg16 main_arg18 main_v10 main_v13 main_v14
-- ==== Kernel.lean ====
abbrev S1x2048x768 : Shape := ⟨3, ![1, 2048, 768]⟩
abbrev S2x768x768 : Shape := ⟨3, ![2, 768, 768]⟩
abbrev S2x768 : Shape := ⟨2, ![2, 768]⟩
abbrev S2x768x1024 : Shape := ⟨3, ![2, 768, 1024]⟩
abbrev S2x1024 : Shape := ⟨2, ![2, 1024]⟩
abbrev S2x1024x768 : Shape := ⟨3, ![2, 1024, 768]⟩
abbrev S768 : Shape := ⟨1, ![768]⟩
abbrev S2048x768 : Shape := ⟨2, ![2048, 768]⟩
abbrev S2x1x768 : Shape := ⟨3, ![2, 1, 768]⟩
abbrev S2x1x1024 : Shape := ⟨3, ![2, 1, 1024]⟩
abbrev S256x256 : Shape := ⟨2, ![256, 256]⟩
abbrev S768x12 : Shape := ⟨2, ![768, 12]⟩
abbrev S1x768x768 : Shape := ⟨3, ![1, 768, 768]⟩
abbrev S768x768 : Shape := ⟨2, ![768, 768]⟩
abbrev S1x768 : Shape := ⟨2, ![1, 768]⟩
abbrev S1024x768 : Shape := ⟨2, ![1024, 768]⟩
abbrev S1x1x768 : Shape := ⟨3, ![1, 1, 768]⟩
abbrev S1024x256 : Shape := ⟨2, ![1024, 256]⟩
abbrev S1024x12 : Shape := ⟨2, ![1024, 12]⟩
abbrev S12x768 : Shape := ⟨2, ![12, 768]⟩
abbrev S1024 : Shape := ⟨1, ![1024]⟩
abbrev S1024x1 : Shape := ⟨2, ![1024, 1]⟩
abbrev S1x768x1024 : Shape := ⟨3, ![1, 768, 1024]⟩
abbrev S768x1024 : Shape := ⟨2, ![768, 1024]⟩
abbrev S1024x1024 : Shape := ⟨2, ![1024, 1024]⟩
abbrev S1x1x1024 : Shape := ⟨3, ![1, 1, 1024]⟩
abbrev S1x1024 : Shape := ⟨2, ![1, 1024]⟩
abbrev S1x1024x768 : Shape := ⟨3, ![1, 1024, 768]⟩

abbrev nBuf : Space → Nat
  | .hbm => 27
  | .vmem => 14
  | .smem => 0
  | _ => 0

abbrev bufTy : (tb : Table) → Fin (tcTables nBuf tb) → BufTy
  | .hbm, ⟨0, _⟩ => ⟨S1x2048x768, .f32⟩
  | .hbm, ⟨1, _⟩ => ⟨S2x768x768, .f32⟩
  | .hbm, ⟨2, _⟩ => ⟨S2x768, .f32⟩
  | .hbm, ⟨3, _⟩ => ⟨S2x768x768, .f32⟩
  | .hbm, ⟨4, _⟩ => ⟨S2x768, .f32⟩
  | .hbm, ⟨5, _⟩ => ⟨S2x768x768, .f32⟩
  | .hbm, ⟨6, _⟩ => ⟨S2x768, .f32⟩
  | .hbm, ⟨7, _⟩ => ⟨S2x768x768, .f32⟩
  | .hbm, ⟨8, _⟩ => ⟨S2x768, .f32⟩
  | .hbm, ⟨9, _⟩ => ⟨S2x768, .f32⟩
  | .hbm, ⟨10, _⟩ => ⟨S2x768, .f32⟩
  | .hbm, ⟨11, _⟩ => ⟨S2x768x1024, .f32⟩
  | .hbm, ⟨12, _⟩ => ⟨S2x1024, .f32⟩
  | .hbm, ⟨13, _⟩ => ⟨S2x1024x768, .f32⟩
  | .hbm, ⟨14, _⟩ => ⟨S2x768, .f32⟩
  | .hbm, ⟨15, _⟩ => ⟨S2x768, .f32⟩
  | .hbm, ⟨16, _⟩ => ⟨S2x768, .f32⟩
  | .hbm, ⟨17, _⟩ => ⟨S768, .f32⟩
  | .hbm, ⟨18, _⟩ => ⟨S768, .f32⟩
  | .hbm, ⟨19, _⟩ => ⟨S2048x768, .f32⟩
  | .hbm, ⟨20, _⟩ => ⟨S2x1x768, .f32⟩
  | .hbm, ⟨21, _⟩ => ⟨S2x1x768, .f32⟩
  | .hbm, ⟨22, _⟩ => ⟨S2x1x768, .f32⟩
  | .hbm, ⟨23, _⟩ => ⟨S2x1x768, .f32⟩
  | .hbm, ⟨24, _⟩ => ⟨S2x1x1024, .f32⟩
  | .hbm, ⟨25, _⟩ => ⟨S2x1x768, .f32⟩
  | .hbm, ⟨26, _⟩ => ⟨S2048x768, .f32⟩
  | .local _ .vmem, ⟨0, _⟩ => ⟨S2048x768, .f32⟩
  | .local _ .vmem, ⟨1, _⟩ => ⟨S2x768x768, .f32⟩
  | .local _ .vmem, ⟨2, _⟩ => ⟨S2x1x768, .f32⟩
  | .local _ .vmem, ⟨3, _⟩ => ⟨S2x768x768, .f32⟩
  | .local _ .vmem, ⟨4, _⟩ => ⟨S2x1x768, .f32⟩
  | .local _ .vmem, ⟨5, _⟩ => ⟨S2x768x768, .f32⟩
  | .local _ .vmem, ⟨6, _⟩ => ⟨S2x1x768, .f32⟩
  | .local _ .vmem, ⟨7, _⟩ => ⟨S2x768x768, .f32⟩
  | .local _ .vmem, ⟨8, _⟩ => ⟨S2x1x768, .f32⟩
  | .local _ .vmem, ⟨9, _⟩ => ⟨S2x768x1024, .f32⟩
  | .local _ .vmem, ⟨10, _⟩ => ⟨S2x1x1024, .f32⟩
  | .local _ .vmem, ⟨11, _⟩ => ⟨S2x1024x768, .f32⟩
  | .local _ .vmem, ⟨12, _⟩ => ⟨S2x1x768, .f32⟩
  | .local _ .vmem, ⟨13, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_v0 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x768x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceIdeal.lean ====
abbrev S1x2048x768 : Shape := ⟨3, ![1, 2048, 768]⟩
abbrev S2x768x768 : Shape := ⟨3, ![2, 768, 768]⟩
abbrev S2x768 : Shape := ⟨2, ![2, 768]⟩
abbrev S2x768x1024 : Shape := ⟨3, ![2, 768, 1024]⟩
abbrev S2x1024 : Shape := ⟨2, ![2, 1024]⟩
abbrev S2x1024x768 : Shape := ⟨3, ![2, 1024, 768]⟩
abbrev S768 : Shape := ⟨1, ![768]⟩
abbrev S1x768x768 : Shape := ⟨3, ![1, 768, 768]⟩
abbrev S768x768 : Shape := ⟨2, ![768, 768]⟩
abbrev S1x768 : Shape := ⟨2, ![1, 768]⟩
abbrev S1x1x768 : Shape := ⟨3, ![1, 1, 768]⟩
abbrev S1x2048x12x64 : Shape := ⟨4, ![1, 2048, 12, 64]⟩
abbrev S_ : Shape := ⟨0, ![]⟩
abbrev S1x12x64x64 : Shape := ⟨4, ![1, 12, 64, 64]⟩
abbrev S1x12x64 : Shape := ⟨3, ![1, 12, 64]⟩
abbrev S1x12x2048 : Shape := ⟨3, ![1, 12, 2048]⟩
abbrev S1x2048x12 : Shape := ⟨3, ![1, 2048, 12]⟩
abbrev S1x12x64x2048 : Shape := ⟨4, ![1, 12, 64, 2048]⟩
abbrev S1x2048x12x1 : Shape := ⟨4, ![1, 2048, 12, 1]⟩
abbrev S1x2048 : Shape := ⟨2, ![1, 2048]⟩
abbrev S1x2048x1 : Shape := ⟨3, ![1, 2048, 1]⟩
abbrev S1x768x1024 : Shape := ⟨3, ![1, 768, 1024]⟩
abbrev S768x1024 : Shape := ⟨2, ![768, 1024]⟩
abbrev S1x2048x1024 : Shape := ⟨3, ![1, 2048, 1024]⟩
abbrev S1x1024 : Shape := ⟨2, ![1, 1024]⟩
abbrev S1024 : Shape := ⟨1, ![1024]⟩
abbrev S1x1x1024 : Shape := ⟨3, ![1, 1, 1024]⟩
abbrev S1x1024x768 : Shape := ⟨3, ![1, 1024, 768]⟩
abbrev S1024x768 : Shape := ⟨2, ![1024, 768]⟩
abbrev S2048x768 : Shape := ⟨2, ![2048, 768]⟩

abbrev nBuf : Space → Nat
  | .hbm => 399
  | .vmem => 0
  | .smem => 0
  | _ => 0

abbrev hbmTy0_0 (i : Nat) : BufTy := match i % 128 with
  | 0 => ⟨S1x2048x768, .f32⟩
  | 1 => ⟨S2x768x768, .f32⟩
  | 2 => ⟨S2x768, .f32⟩
  | 3 => ⟨S2x768x768, .f32⟩
  | 4 => ⟨S2x768, .f32⟩
  | 5 => ⟨S2x768x768, .f32⟩
  | 6 => ⟨S2x768, .f32⟩
  | 7 => ⟨S2x768x768, .f32⟩
  | 8 => ⟨S2x768, .f32⟩
  | 9 => ⟨S2x768, .f32⟩
  | 10 => ⟨S2x768, .f32⟩
  | 11 => ⟨S2x768x1024, .f32⟩
  | 12 => ⟨S2x1024, .f32⟩
  | 13 => ⟨S2x1024x768, .f32⟩
  | 14 => ⟨S2x768, .f32⟩
  | 15 => ⟨S2x768, .f32⟩
  | 16 => ⟨S2x768, .f32⟩
  | 17 => ⟨S768, .f32⟩
  | 18 => ⟨S768, .f32⟩
  | 19 => ⟨S1x768x768, .f32⟩
  | 20 => ⟨S768x768, .f32⟩
  | 21 => ⟨S1x2048x768, .f32⟩
  | 22 => ⟨S1x768, .f32⟩
  | 23 => ⟨S768, .f32⟩
  | 24 => ⟨S1x1x768, .f32⟩
  | 25 => ⟨S1x2048x768, .f32⟩
  | 26 => ⟨S1x2048x768, .f32⟩
  | 27 => ⟨S1x2048x12x64, .f32⟩
  | 28 => ⟨S1x768x768, .f32⟩
  | 29 => ⟨S768x768, .f32⟩
  | 30 => ⟨S1x2048x768, .f32⟩
  | 31 => ⟨S1x768, .f32⟩
  | 32 => ⟨S768, .f32⟩
  | 33 => ⟨S1x1x768, .f32⟩
  | 34 => ⟨S1x2048x768, .f32⟩
  | 35 => ⟨S1x2048x768, .f32⟩
  | 36 => ⟨S1x2048x12x64, .f32⟩
  | 37 => ⟨S1x768x768, .f32⟩
  | 38 => ⟨S768x768, .f32⟩
  | 39 => ⟨S1x2048x768, .f32⟩
  | 40 => ⟨S1x768, .f32⟩
  | 41 => ⟨S768, .f32⟩
  | 42 => ⟨S1x1x768, .f32⟩
  | 43 => ⟨S1x2048x768, .f32⟩
  | 44 => ⟨S1x2048x768, .f32⟩
  | 45 => ⟨S1x2048x12x64, .f32⟩
  | 46 => ⟨S_, .f32⟩
  | 47 => ⟨S1x2048x12x64, .f32⟩
  | 48 => ⟨S1x2048x12x64, .i1⟩
  | 49 => ⟨S_, .f32⟩
  | 50 => ⟨S1x2048x12x64, .f32⟩
  | 51 => ⟨S1x2048x12x64, .i1⟩
  | 52 => ⟨S_, .f32⟩
  | 53 => ⟨S_, .f32⟩
  | 54 => ⟨S1x2048x12x64, .f32⟩
  | 55 => ⟨S1x2048x12x64, .f32⟩
  | 56 => ⟨S1x2048x12x64, .f32⟩
  | 57 => ⟨S_, .f32⟩
  | 58 => ⟨S1x2048x12x64, .f32⟩
  | 59 => ⟨S1x2048x12x64, .f32⟩
  | 60 => ⟨S1x2048x12x64, .f32⟩
  | 61 => ⟨S_, .f32⟩
  | 62 => ⟨S1x2048x12x64, .f32⟩
  | 63 => ⟨S1x2048x12x64, .f32⟩
  | 64 => ⟨S_, .f32⟩
  | 65 => ⟨S1x2048x12x64, .f32⟩
  | 66 => ⟨S1x2048x12x64, .i1⟩
  | 67 => ⟨S_, .f32⟩
  | 68 => ⟨S1x2048x12x64, .f32⟩
  | 69 => ⟨S1x2048x12x64, .i1⟩
  | 70 => ⟨S_, .f32⟩
  | 71 => ⟨S_, .f32⟩
  | 72 => ⟨S1x2048x12x64, .f32⟩
  | 73 => ⟨S1x2048x12x64, .f32⟩
  | 74 => ⟨S1x2048x12x64, .f32⟩
  | 75 => ⟨S_, .f32⟩
  | 76 => ⟨S1x2048x12x64, .f32⟩
  | 77 => ⟨S1x2048x12x64, .f32⟩
  | 78 => ⟨S1x2048x12x64, .f32⟩
  | 79 => ⟨S_, .f32⟩
  | 80 => ⟨S1x2048x12x64, .f32⟩
  | 81 => ⟨S1x2048x12x64, .f32⟩
  | 82 => ⟨S1x12x64x64, .f32⟩
  | 83 => ⟨S_, .f32⟩
  | 84 => ⟨S1x12x64, .f32⟩
  | 85 => ⟨S1x12x2048, .f32⟩
  | 86 => ⟨S1x2048x12, .f32⟩
  | 87 => ⟨S_, .f32⟩
  | 88 => ⟨S1x2048x12, .f32⟩
  | 89 => ⟨S1x2048x12, .f32⟩
  | 90 => ⟨S_, .f32⟩
  | 91 => ⟨S1x2048x12, .f32⟩
  | 92 => ⟨S1x2048x12, .f32⟩
  | 93 => ⟨S1x12x64x2048, .f32⟩
  | 94 => ⟨S1x2048x12x64, .f32⟩
  | 95 => ⟨S1x2048x12x1, .f32⟩
  | 96 => ⟨S1x2048x12x64, .f32⟩
  | 97 => ⟨S1x2048x12x64, .f32⟩
  | 98 => ⟨S1x2048x768, .f32⟩
  | 99 => ⟨S1x768x768, .f32⟩
  | 100 => ⟨S768x768, .f32⟩
  | 101 => ⟨S1x2048x768, .f32⟩
  | 102 => ⟨S1x768, .f32⟩
  | 103 => ⟨S768, .f32⟩
  | 104 => ⟨S1x1x768, .f32⟩
  | 105 => ⟨S1x2048x768, .f32⟩
  | 106 => ⟨S1x2048x768, .f32⟩
  | 107 => ⟨S1x2048x768, .f32⟩
  | 108 => ⟨S1x768, .f32⟩
  | 109 => ⟨S768, .f32⟩
  | 110 => ⟨S1x768, .f32⟩
  | 111 => ⟨S768, .f32⟩
  | 112 => ⟨S_, .f32⟩
  | 113 => ⟨S1x2048, .f32⟩
  | 114 => ⟨S1x2048x1, .f32⟩
  | 115 => ⟨S_, .f32⟩
  | 116 => ⟨S1x2048x1, .f32⟩
  | 117 => ⟨S1x2048x1, .f32⟩
  | 118 => ⟨S1x2048x768, .f32⟩
  | 119 => ⟨S1x2048x768, .f32⟩
  | 120 => ⟨S1x2048x768, .f32⟩
  | 121 => ⟨S_, .f32⟩
  | 122 => ⟨S1x2048, .f32⟩
  | 123 => ⟨S1x2048x1, .f32⟩
  | 124 => ⟨S_, .f32⟩
  | 125 => ⟨S1x2048x1, .f32⟩
  | 126 => ⟨S1x2048x1, .f32⟩
  | 127 => ⟨S1x2048x768, .f32⟩
  | _ => ⟨S1x2048x768, .f32⟩

abbrev hbmTy0_1 (i : Nat) : BufTy := match i % 128 with
  | 0 => ⟨S1x2048x768, .f32⟩
  | 1 => ⟨S_, .f32⟩
  | 2 => ⟨S1x2048x1, .f32⟩
  | 3 => ⟨S1x2048x1, .f32⟩
  | 4 => ⟨S1x2048x1, .f32⟩
  | 5 => ⟨S1x2048x768, .f32⟩
  | 6 => ⟨S1x2048x768, .f32⟩
  | 7 => ⟨S1x1x768, .f32⟩
  | 8 => ⟨S1x2048x768, .f32⟩
  | 9 => ⟨S1x2048x768, .f32⟩
  | 10 => ⟨S1x1x768, .f32⟩
  | 11 => ⟨S1x2048x768, .f32⟩
  | 12 => ⟨S1x2048x768, .f32⟩
  | 13 => ⟨S1x768x1024, .f32⟩
  | 14 => ⟨S768x1024, .f32⟩
  | 15 => ⟨S1x2048x1024, .f32⟩
  | 16 => ⟨S1x1024, .f32⟩
  | 17 => ⟨S1024, .f32⟩
  | 18 => ⟨S1x1x1024, .f32⟩
  | 19 => ⟨S1x2048x1024, .f32⟩
  | 20 => ⟨S1x2048x1024, .f32⟩
  | 21 => ⟨S_, .f32⟩
  | 22 => ⟨S1x2048x1024, .f32⟩
  | 23 => ⟨S1x2048x1024, .f32⟩
  | 24 => ⟨S1x1024x768, .f32⟩
  | 25 => ⟨S1024x768, .f32⟩
  | 26 => ⟨S1x2048x768, .f32⟩
  | 27 => ⟨S1x768, .f32⟩
  | 28 => ⟨S768, .f32⟩
  | 29 => ⟨S1x1x768, .f32⟩
  | 30 => ⟨S1x2048x768, .f32⟩
  | 31 => ⟨S1x2048x768, .f32⟩
  | 32 => ⟨S1x2048x768, .f32⟩
  | 33 => ⟨S1x768, .f32⟩
  | 34 => ⟨S768, .f32⟩
  | 35 => ⟨S1x768, .f32⟩
  | 36 => ⟨S768, .f32⟩
  | 37 => ⟨S_, .f32⟩
  | 38 => ⟨S1x2048, .f32⟩
  | 39 => ⟨S1x2048x1, .f32⟩
  | 40 => ⟨S_, .f32⟩
  | 41 => ⟨S1x2048x1, .f32⟩
  | 42 => ⟨S1x2048x1, .f32⟩
  | 43 => ⟨S1x2048x768, .f32⟩
  | 44 => ⟨S1x2048x768, .f32⟩
  | 45 => ⟨S1x2048x768, .f32⟩
  | 46 => ⟨S_, .f32⟩
  | 47 => ⟨S1x2048, .f32⟩
  | 48 => ⟨S1x2048x1, .f32⟩
  | 49 => ⟨S_, .f32⟩
  | 50 => ⟨S1x2048x1, .f32⟩
  | 51 => ⟨S1x2048x1, .f32⟩
  | 52 => ⟨S1x2048x768, .f32⟩
  | 53 => ⟨S1x2048x768, .f32⟩
  | 54 => ⟨S_, .f32⟩
  | 55 => ⟨S1x2048x1, .f32⟩
  | 56 => ⟨S1x2048x1, .f32⟩
  | 57 => ⟨S1x2048x1, .f32⟩
  | 58 => ⟨S1x2048x768, .f32⟩
  | 59 => ⟨S1x2048x768, .f32⟩
  | 60 => ⟨S1x1x768, .f32⟩
  | 61 => ⟨S1x2048x768, .f32⟩
  | 62 => ⟨S1x2048x768, .f32⟩
  | 63 => ⟨S1x1x768, .f32⟩
  | 64 => ⟨S1x2048x768, .f32⟩
  | 65 => ⟨S1x2048x768, .f32⟩
  | 66 => ⟨S1x768x768, .f32⟩
  | 67 => ⟨S768x768, .f32⟩
  | 68 => ⟨S1x2048x768, .f32⟩
  | 69 => ⟨S1x768, .f32⟩
  | 70 => ⟨S768, .f32⟩
  | 71 => ⟨S1x1x768, .f32⟩
  | 72 => ⟨S1x2048x768, .f32⟩
  | 73 => ⟨S1x2048x768, .f32⟩
  | 74 => ⟨S1x2048x12x64, .f32⟩
  | 75 => ⟨S1x768x768, .f32⟩
  | 76 => ⟨S768x768, .f32⟩
  | 77 => ⟨S1x2048x768, .f32⟩
  | 78 => ⟨S1x768, .f32⟩
  | 79 => ⟨S768, .f32⟩
  | 80 => ⟨S1x1x768, .f32⟩
  | 81 => ⟨S1x2048x768, .f32⟩
  | 82 => ⟨S1x2048x768, .f32⟩
  | 83 => ⟨S1x2048x12x64, .f32⟩
  | 84 => ⟨S1x768x768, .f32⟩
  | 85 => ⟨S768x768, .f32⟩
  | 86 => ⟨S1x2048x768, .f32⟩
  | 87 => ⟨S1x768, .f32⟩
  | 88 => ⟨S768, .f32⟩
  | 89 => ⟨S1x1x768, .f32⟩
  | 90 => ⟨S1x2048x768, .f32⟩
  | 91 => ⟨S1x2048x768, .f32⟩
  | 92 => ⟨S1x2048x12x64, .f32⟩
  | 93 => ⟨S_, .f32⟩
  | 94 => ⟨S1x2048x12x64, .f32⟩
  | 95 => ⟨S1x2048x12x64, .i1⟩
  | 96 => ⟨S_, .f32⟩
  | 97 => ⟨S1x2048x12x64, .f32⟩
  | 98 => ⟨S1x2048x12x64, .i1⟩
  | 99 => ⟨S_, .f32⟩
  | 100 => ⟨S_, .f32⟩
  | 101 => ⟨S1x2048x12x64, .f32⟩
  | 102 => ⟨S1x2048x12x64, .f32⟩
  | 103 => ⟨S1x2048x12x64, .f32⟩
  | 104 => ⟨S_, .f32⟩
  | 105 => ⟨S1x2048x12x64, .f32⟩
  | 106 => ⟨S1x2048x12x64, .f32⟩
  | 107 => ⟨S1x2048x12x64, .f32⟩
  | 108 => ⟨S_, .f32⟩
  | 109 => ⟨S1x2048x12x64, .f32⟩
  | 110 => ⟨S1x2048x12x64, .f32⟩
  | 111 => ⟨S_, .f32⟩
  | 112 => ⟨S1x2048x12x64, .f32⟩
  | 113 => ⟨S1x2048x12x64, .i1⟩
  | 114 => ⟨S_, .f32⟩
  | 115 => ⟨S1x2048x12x64, .f32⟩
  | 116 => ⟨S1x2048x12x64, .i1⟩
  | 117 => ⟨S_, .f32⟩
  | 118 => ⟨S_, .f32⟩
  | 119 => ⟨S1x2048x12x64, .f32⟩
  | 120 => ⟨S1x2048x12x64, .f32⟩
  | 121 => ⟨S1x2048x12x64, .f32⟩
  | 122 => ⟨S_, .f32⟩
  | 123 => ⟨S1x2048x12x64, .f32⟩
  | 124 => ⟨S1x2048x12x64, .f32⟩
  | 125 => ⟨S1x2048x12x64, .f32⟩
  | 126 => ⟨S_, .f32⟩
  | 127 => ⟨S1x2048x12x64, .f32⟩
  | _ => ⟨S1x2048x768, .f32⟩

abbrev hbmTy0_2 (i : Nat) : BufTy := match i % 128 with
  | 0 => ⟨S1x2048x12x64, .f32⟩
  | 1 => ⟨S1x12x64x64, .f32⟩
  | 2 => ⟨S_, .f32⟩
  | 3 => ⟨S1x12x64, .f32⟩
  | 4 => ⟨S1x12x2048, .f32⟩
  | 5 => ⟨S1x2048x12, .f32⟩
  | 6 => ⟨S_, .f32⟩
  | 7 => ⟨S1x2048x12, .f32⟩
  | 8 => ⟨S1x2048x12, .f32⟩
  | 9 => ⟨S_, .f32⟩
  | 10 => ⟨S1x2048x12, .f32⟩
  | 11 => ⟨S1x2048x12, .f32⟩
  | 12 => ⟨S1x12x64x2048, .f32⟩
  | 13 => ⟨S1x2048x12x64, .f32⟩
  | 14 => ⟨S1x2048x12x1, .f32⟩
  | 15 => ⟨S1x2048x12x64, .f32⟩
  | 16 => ⟨S1x2048x12x64, .f32⟩
  | 17 => ⟨S1x2048x768, .f32⟩
  | 18 => ⟨S1x768x768, .f32⟩
  | 19 => ⟨S768x768, .f32⟩
  | 20 => ⟨S1x2048x768, .f32⟩
  | 21 => ⟨S1x768, .f32⟩
  | 22 => ⟨S768, .f32⟩
  | 23 => ⟨S1x1x768, .f32⟩
  | 24 => ⟨S1x2048x768, .f32⟩
  | 25 => ⟨S1x2048x768, .f32⟩
  | 26 => ⟨S1x2048x768, .f32⟩
  | 27 => ⟨S1x768, .f32⟩
  | 28 => ⟨S768, .f32⟩
  | 29 => ⟨S1x768, .f32⟩
  | 30 => ⟨S768, .f32⟩
  | 31 => ⟨S_, .f32⟩
  | 32 => ⟨S1x2048, .f32⟩
  | 33 => ⟨S1x2048x1, .f32⟩
  | 34 => ⟨S_, .f32⟩
  | 35 => ⟨S1x2048x1, .f32⟩
  | 36 => ⟨S1x2048x1, .f32⟩
  | 37 => ⟨S1x2048x768, .f32⟩
  | 38 => ⟨S1x2048x768, .f32⟩
  | 39 => ⟨S1x2048x768, .f32⟩
  | 40 => ⟨S_, .f32⟩
  | 41 => ⟨S1x2048, .f32⟩
  | 42 => ⟨S1x2048x1, .f32⟩
  | 43 => ⟨S_, .f32⟩
  | 44 => ⟨S1x2048x1, .f32⟩
  | 45 => ⟨S1x2048x1, .f32⟩
  | 46 => ⟨S1x2048x768, .f32⟩
  | 47 => ⟨S1x2048x768, .f32⟩
  | 48 => ⟨S_, .f32⟩
  | 49 => ⟨S1x2048x1, .f32⟩
  | 50 => ⟨S1x2048x1, .f32⟩
  | 51 => ⟨S1x2048x1, .f32⟩
  | 52 => ⟨S1x2048x768, .f32⟩
  | 53 => ⟨S1x2048x768, .f32⟩
  | 54 => ⟨S1x1x768, .f32⟩
  | 55 => ⟨S1x2048x768, .f32⟩
  | 56 => ⟨S1x2048x768, .f32⟩
  | 57 => ⟨S1x1x768, .f32⟩
  | 58 => ⟨S1x2048x768, .f32⟩
  | 59 => ⟨S1x2048x768, .f32⟩
  | 60 => ⟨S1x768x1024, .f32⟩
  | 61 => ⟨S768x1024, .f32⟩
  | 62 => ⟨S1x2048x1024, .f32⟩
  | 63 => ⟨S1x1024, .f32⟩
  | 64 => ⟨S1024, .f32⟩
  | 65 => ⟨S1x1x1024, .f32⟩
  | 66 => ⟨S1x2048x1024, .f32⟩
  | 67 => ⟨S1x2048x1024, .f32⟩
  | 68 => ⟨S_, .f32⟩
  | 69 => ⟨S1x2048x1024, .f32⟩
  | 70 => ⟨S1x2048x1024, .f32⟩
  | 71 => ⟨S1x1024x768, .f32⟩
  | 72 => ⟨S1024x768, .f32⟩
  | 73 => ⟨S1x2048x768, .f32⟩
  | 74 => ⟨S1x768, .f32⟩
  | 75 => ⟨S768, .f32⟩
  | 76 => ⟨S1x1x768, .f32⟩
  | 77 => ⟨S1x2048x768, .f32⟩
  | 78 => ⟨S1x2048x768, .f32⟩
  | 79 => ⟨S1x2048x768, .f32⟩
  | 80 => ⟨S1x768, .f32⟩
  | 81 => ⟨S768, .f32⟩
  | 82 => ⟨S1x768, .f32⟩
  | 83 => ⟨S768, .f32⟩
  | 84 => ⟨S_, .f32⟩
  | 85 => ⟨S1x2048, .f32⟩
  | 86 => ⟨S1x2048x1, .f32⟩
  | 87 => ⟨S_, .f32⟩
  | 88 => ⟨S1x2048x1, .f32⟩
  | 89 => ⟨S1x2048x1, .f32⟩
  | 90 => ⟨S1x2048x768, .f32⟩
  | 91 => ⟨S1x2048x768, .f32⟩
  | 92 => ⟨S1x2048x768, .f32⟩
  | 93 => ⟨S_, .f32⟩
  | 94 => ⟨S1x2048, .f32⟩
  | 95 => ⟨S1x2048x1, .f32⟩
  | 96 => ⟨S_, .f32⟩
  | 97 => ⟨S1x2048x1, .f32⟩
  | 98 => ⟨S1x2048x1, .f32⟩
  | 99 => ⟨S1x2048x768, .f32⟩
  | 100 => ⟨S1x2048x768, .f32⟩
  | 101 => ⟨S_, .f32⟩
  | 102 => ⟨S1x2048x1, .f32⟩
  | 103 => ⟨S1x2048x1, .f32⟩
  | 104 => ⟨S1x2048x1, .f32⟩
  | 105 => ⟨S1x2048x768, .f32⟩
  | 106 => ⟨S1x2048x768, .f32⟩
  | 107 => ⟨S1x1x768, .f32⟩
  | 108 => ⟨S1x2048x768, .f32⟩
  | 109 => ⟨S1x2048x768, .f32⟩
  | 110 => ⟨S1x1x768, .f32⟩
  | 111 => ⟨S1x2048x768, .f32⟩
  | 112 => ⟨S1x2048x768, .f32⟩
  | 113 => ⟨S_, .f32⟩
  | 114 => ⟨S1x2048, .f32⟩
  | 115 => ⟨S1x2048x1, .f32⟩
  | 116 => ⟨S_, .f32⟩
  | 117 => ⟨S1x2048x1, .f32⟩
  | 118 => ⟨S1x2048x1, .f32⟩
  | 119 => ⟨S1x2048x768, .f32⟩
  | 120 => ⟨S1x2048x768, .f32⟩
  | 121 => ⟨S1x2048x768, .f32⟩
  | 122 => ⟨S_, .f32⟩
  | 123 => ⟨S1x2048, .f32⟩
  | 124 => ⟨S1x2048x1, .f32⟩
  | 125 => ⟨S_, .f32⟩
  | 126 => ⟨S1x2048x1, .f32⟩
  | 127 => ⟨S1x2048x1, .f32⟩
  | _ => ⟨S1x2048x768, .f32⟩

abbrev hbmTy0_3 (i : Nat) : BufTy := match i % 128 with
  | 0 => ⟨S1x2048x768, .f32⟩
  | 1 => ⟨S1x2048x768, .f32⟩
  | 2 => ⟨S_, .f32⟩
  | 3 => ⟨S1x2048x1, .f32⟩
  | 4 => ⟨S1x2048x1, .f32⟩
  | 5 => ⟨S1x2048x1, .f32⟩
  | 6 => ⟨S1x2048x768, .f32⟩
  | 7 => ⟨S1x2048x768, .f32⟩
  | 8 => ⟨S1x1x768, .f32⟩
  | 9 => ⟨S1x2048x768, .f32⟩
  | 10 => ⟨S1x2048x768, .f32⟩
  | 11 => ⟨S1x1x768, .f32⟩
  | 12 => ⟨S1x2048x768, .f32⟩
  | 13 => ⟨S1x2048x768, .f32⟩
  | 14 => ⟨S2048x768, .f32⟩
  | _ => ⟨S1x2048x768, .f32⟩

abbrev hbmTy (i : Nat) : BufTy := match i / 128 with
  | 0 => hbmTy0_0 i
  | 1 => hbmTy0_1 i
  | 2 => hbmTy0_2 i
  | 3 => hbmTy0_3 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_cst_1 : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_v4 : Ref sig .tc := ⟨.hbm, 55, rfl⟩
abbrev main_call0_v5 : Ref sig .tc := ⟨.hbm, 56, rfl⟩
abbrev main_call0_cst_2 : Ref sig .tc := ⟨.hbm, 57, rfl⟩
abbrev main_call0_v6 : Ref sig .tc := ⟨.hbm, 58, rfl⟩
abbrev main_call0_v7 : Ref sig .tc := ⟨.hbm, 59, rfl⟩
abbrev main_v27 : Ref sig .tc := ⟨.hbm, 60, rfl⟩
abbrev main_cst : Ref sig .tc := ⟨.hbm, 61, rfl⟩
abbrev main_v28 : Ref sig .tc := ⟨.hbm, 62, rfl⟩
abbrev main_v29 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_cst_1 : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_v4 : Ref sig .tc := ⟨.hbm, 73, rfl⟩
abbrev main_call1_v5 : Ref sig .tc := ⟨.hbm, 74, rfl⟩
abbrev main_call1_cst_2 : Ref sig .tc := ⟨.hbm, 75, rfl⟩
abbrev main_call1_v6 : Ref sig .tc := ⟨.hbm, 76, rfl⟩
abbrev main_call1_v7 : Ref sig .tc := ⟨.hbm, 77, rfl⟩
abbrev main_v30 : Ref sig .tc := ⟨.hbm, 78, rfl⟩
abbrev main_cst_0 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_1 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_2 : Ref sig .tc := ⟨.hbm, 87, rfl⟩
abbrev main_v37 : Ref sig .tc := ⟨.hbm, 88, rfl⟩
abbrev main_v38 : Ref sig .tc := ⟨.hbm, 89, rfl⟩
abbrev main_cst_3 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_4 : Ref sig .tc := ⟨.hbm, 112, rfl⟩
abbrev main_v60 : Ref sig .tc := ⟨.hbm, 113, rfl⟩
abbrev main_v61 : Ref sig .tc := ⟨.hbm, 114, rfl⟩
abbrev main_cst_5 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_6 : Ref sig .tc := ⟨.hbm, 121, rfl⟩
abbrev main_v67 : Ref sig .tc := ⟨.hbm, 122, rfl⟩
abbrev main_v68 : Ref sig .tc := ⟨.hbm, 123, rfl⟩
abbrev main_cst_7 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_8 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_call2_cst : Ref sig .tc := ⟨.hbm, 149, rfl⟩
abbrev main_call2_v0 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_9 : Ref sig .tc := ⟨.hbm, 165, rfl⟩
abbrev main_v106 : Ref sig .tc := ⟨.hbm, 166, rfl⟩
abbrev main_v107 : Ref sig .tc := ⟨.hbm, 167, rfl⟩
abbrev main_cst_10 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_11 : Ref sig .tc := ⟨.hbm, 174, rfl⟩
abbrev main_v113 : Ref sig .tc := ⟨.hbm, 175, rfl⟩
abbrev main_v114 : Ref sig .tc := ⟨.hbm, 176, rfl⟩
abbrev main_cst_12 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_13 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_call3_cst : Ref sig .tc := ⟨.hbm, 221, rfl⟩
abbrev main_call3_v0 : Ref sig .tc := ⟨.hbm, 222, rfl⟩
abbrev main_call3_v1 : Ref sig .tc := ⟨.hbm, 223, rfl⟩
abbrev main_call3_cst_0 : Ref sig .tc := ⟨.hbm, 224, rfl⟩
abbrev main_call3_v2 : Ref sig .tc := ⟨.hbm, 225, rfl⟩
abbrev main_call3_v3 : Ref sig .tc := ⟨.hbm, 226, rfl⟩
abbrev main_call3_cst_1 : Ref sig .tc := ⟨.hbm, 227, rfl⟩
abbrev main_call3_call0_v0 : Ref sig .tc := ⟨.hbm, 228, rfl⟩
abbrev main_call3_call0_v1 : Ref sig .tc := ⟨.hbm, 229, rfl⟩
abbrev main_call3_v4 : Ref sig .tc := ⟨.hbm, 230, rfl⟩
abbrev main_call3_v5 : Ref sig .tc := ⟨.hbm, 231, rfl⟩
abbrev main_call3_cst_2 : Ref sig .tc := ⟨.hbm, 232, rfl⟩
abbrev main_call3_v6 : Ref sig .tc := ⟨.hbm, 233, rfl⟩
abbrev main_call3_v7 : Ref sig .tc := ⟨.hbm, 234, rfl⟩
abbrev main_v157 : Ref sig .tc := ⟨.hbm, 235, rfl⟩
abbrev main_cst_14 : Ref sig .tc := ⟨.hbm, 236, rfl⟩
abbrev main_v158 : Ref sig .tc := ⟨.hbm, 237, rfl⟩
abbrev main_v159 : Ref sig .tc := ⟨.hbm, 238, rfl⟩
abbrev main_call4_cst : Ref sig .tc := ⟨.hbm, 239, rfl⟩
abbrev main_call4_v0 : Ref sig .tc := ⟨.hbm, 240, rfl⟩
abbrev main_call4_v1 : Ref sig .tc := ⟨.hbm, 241, rfl⟩
abbrev main_call4_cst_0 : Ref sig .tc := ⟨.hbm, 242, rfl⟩
abbrev main_call4_v2 : Ref sig .tc := ⟨.hbm, 243, rfl⟩
abbrev main_call4_v3 : Ref sig .tc := ⟨.hbm, 244, rfl⟩
abbrev main_call4_cst_1 : Ref sig .tc := ⟨.hbm, 245, rfl⟩
abbrev main_call4_call0_v0 : Ref sig .tc := ⟨.hbm, 246, rfl⟩
abbrev main_call4_call0_v1 : Ref sig .tc := ⟨.hbm, 247, rfl⟩
abbrev main_call4_v4 : Ref sig .tc := ⟨.hbm, 248, rfl⟩
abbrev main_call4_v5 : Ref sig .tc := ⟨.hbm, 249, rfl⟩
abbrev main_call4_cst_2 : Ref sig .tc := ⟨.hbm, 250, rfl⟩
abbrev main_call4_v6 : Ref sig .tc := ⟨.hbm, 251, rfl⟩
abbrev main_call4_v7 : Ref sig .tc := ⟨.hbm, 252, rfl⟩
abbrev main_v160 : Ref sig .tc := ⟨.hbm, 253, rfl⟩
abbrev main_cst_15 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_cst_16 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_cst_17 : Ref sig .tc := ⟨.hbm, 262, rfl⟩
abbrev main_v167 : Ref sig .tc := ⟨.hbm, 263, rfl⟩
abbrev main_v168 : Ref sig .tc := ⟨.hbm, 264, rfl⟩
abbrev main_cst_18 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_cst_19 : Ref sig .tc := ⟨.hbm, 287, rfl⟩
abbrev main_v190 : Ref sig .tc := ⟨.hbm, 288, rfl⟩
abbrev main_v191 : Ref sig .tc := ⟨.hbm, 289, rfl⟩
abbrev main_cst_20 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_cst_21 : Ref sig .tc := ⟨.hbm, 296, rfl⟩
abbrev main_v197 : Ref sig .tc := ⟨.hbm, 297, rfl⟩
abbrev main_v198 : Ref sig .tc := ⟨.hbm, 298, rfl⟩
abbrev main_cst_22 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_cst_23 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_call5_cst : Ref sig .tc := ⟨.hbm, 324, rfl⟩
abbrev main_call5_v0 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_v235 : Ref sig .tc := ⟨.hbm, 339, rfl⟩
abbrev main_cst_24 : Ref sig .tc := ⟨.hbm, 340, rfl⟩
abbrev main_v236 : Ref sig .tc := ⟨.hbm, 341, rfl⟩
abbrev main_v237 : Ref sig .tc := ⟨.hbm, 342, rfl⟩
abbrev main_cst_25 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_cst_26 : Ref sig .tc := ⟨.hbm, 349, rfl⟩
abbrev main_v243 : Ref sig .tc := ⟨.hbm, 350, rfl⟩
abbrev main_v244 : Ref sig .tc := ⟨.hbm, 351, rfl⟩
abbrev main_cst_27 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_cst_28 : Ref sig .tc := ⟨.hbm, 357, rfl⟩
abbrev main_v249 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_v259 : Ref sig .tc := ⟨.hbm, 368, rfl⟩
abbrev main_cst_29 : Ref sig .tc := ⟨.hbm, 369, rfl⟩
abbrev main_v260 : Ref sig .tc := ⟨.hbm, 370, rfl⟩
abbrev main_v261 : Ref sig .tc := ⟨.hbm, 371, rfl⟩
abbrev main_cst_30 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_cst_31 : Ref sig .tc := ⟨.hbm, 378, rfl⟩
abbrev main_v267 : Ref sig .tc := ⟨.hbm, 379, rfl⟩
abbrev main_v268 : Ref sig .tc := ⟨.hbm, 380, rfl⟩
abbrev main_cst_32 : Ref sig .tc := ⟨.hbm, 381, rfl⟩
abbrev main_v269 : Ref sig .tc := ⟨.hbm, 382, rfl⟩
abbrev main_v270 : Ref sig .tc := ⟨.hbm, 383, rfl⟩
abbrev main_v271 : Ref sig .tc := ⟨.hbm, 384, rfl⟩
abbrev main_v272 : Ref sig .tc := ⟨.hbm, 385, rfl⟩
abbrev main_cst_33 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩

abbrev nD : Nat := 1
abbrev τ : Topo := Topo.v7x

variable {F : FTy → Type} [FloatOps F]
-- ==== Proof.Model.lean ====
/-
  The mathematics of the encoder, on matrices of extended reals indexed by row and column. Two layers of linear
  attention (the keys and queries through `t ↦ t + 1` for positive `t` and `t ↦ exp t` otherwise), a feed-forward block
  with `max 0`, and layer normalisation after each; a last normalisation of every row at the end. No vector operation
  of a program occurs here.
-/
module

public import Idealize.ShloMosaic.PureOps.Ideal

@[expose] public section

noncomputable section

namespace Enc

open Idealize.ShloMosaic
open scoped BigOperators

/-- A matrix of extended reals, by row and column. -/
abbrev Mat (n m : ℕ) := Fin n → Fin m → EReal

/-- The number of columns, 768, as the programs write it. -/
def width : EReal := Ideal.ofBits .f32 0x44400000#32
/-- The number added to a variance before its root is taken. -/
def epsVar : EReal := Ideal.ofBits .f32 0x3727C5AC#32
/-- The number added to an attention normaliser. -/
def epsDen : EReal := Ideal.ofBits .f32 0x358637BD#32

/-- The product of two matrices. -/
def mm {n k m : ℕ} (a : Mat n k) (b : Mat k m) : Mat n m := fun i j => ∑ t, a i t * b t j

/-- A product with a weight, and a bias added to every row. -/
def affine {n k m : ℕ} (x : Mat n k) (w : Mat k m) (b : Fin m → EReal) : Mat n m := fun i j => mm x w i j + b j

/-- The feature map of the linear attention. -/
def feat (t : EReal) : EReal := if 0 < t then t + 1 else Ideal.exp t

/-- The feature map at every entry. -/
def featM {n m : ℕ} (z : Mat n m) : Mat n m := fun i j => feat (z i j)

/-- The column of entry `d` of head `h`. -/
def col (h : Fin 12) (d : Fin 64) : Fin 768 := ⟨64 * h.val + d.val, by omega⟩

/-- The head of a column. -/
def headOf (j : Fin 768) : Fin 12 := ⟨j.val / 64, by omega⟩

/-- The sum over the keys of (key entry) × (value entry): the state that linear attention keeps. -/
def state (k v : Mat 2048 768) (a j : Fin 768) : EReal := ∑ s, k s a * v s j

/-- The sum of the keys. -/
def keySum (k : Mat 2048 768) (a : Fin 768) : EReal := ∑ s, k s a

/-- The attention's numerator: a query against the state of the column's head. -/
def num {n : ℕ} (q : Mat n 768) (k v : Mat 2048 768) : Mat n 768 :=
  fun i j => ∑ d : Fin 64, q i (col (headOf j) d) * state k v (col (headOf j) d) j

/-- The attention's normaliser: a query against the sum of the keys, in the column's head. -/
def den {n : ℕ} (q : Mat n 768) (k : Mat 2048 768) : Mat n 768 :=
  fun i j => ∑ d : Fin 64, q i (col (headOf j) d) * keySum k (col (headOf j) d)

/-- Linear attention. -/
def attention {n : ℕ} (q : Mat n 768) (k v : Mat 2048 768) : Mat n 768 :=
  fun i j => Ideal.div (num q k v i j) (den q k i j + epsDen)

/-- The mean of a row. -/
def mean (r : Fin 768 → EReal) : EReal := Ideal.div (∑ j, r j) width

/-- Normalisation of a row with its variance taken as the mean square less the squared mean: the kernel's form. -/
def normOnePass (r : Fin 768 → EReal) : Fin 768 → EReal :=
  fun j => (r j - mean r) * Ideal.rsqrt (mean (fun t => r t * r t) - mean r * mean r + epsVar)

/-- Normalisation of a row with its variance taken as the mean of the squared distances to the mean, then a gain and
    an offset: the reference's form. -/
def normTwoPass (g b : Fin 768 → EReal) (r : Fin 768 → EReal) : Fin 768 → EReal :=
  fun j => Ideal.div (r j - mean r) (Ideal.sqrt (mean (fun t => (r t - mean r) * (r t - mean r)) + epsVar)) * g j + b j

/-- A layer's weights and biases. -/
structure Weights where
  /-- The query weight. -/
  Wq : Mat 768 768
  /-- The query bias. -/
  bq : Fin 768 → EReal
  /-- The key weight. -/
  Wk : Mat 768 768
  /-- The key bias. -/
  bk : Fin 768 → EReal
  /-- The value weight. -/
  Wv : Mat 768 768
  /-- The value bias. -/
  bv : Fin 768 → EReal
  /-- The attention's output weight. -/
  Wo : Mat 768 768
  /-- The attention's output bias. -/
  bo : Fin 768 → EReal
  /-- The feed-forward block's first weight. -/
  W1 : Mat 768 1024
  /-- The feed-forward block's first bias. -/
  b1 : Fin 1024 → EReal
  /-- The feed-forward block's second weight. -/
  W2 : Mat 1024 768
  /-- The feed-forward block's second bias. -/
  b2 : Fin 768 → EReal

/-- The rows `x` with the attention over the rows `ctx` added. -/
def attended {n : ℕ} (p : Weights) (ctx : Mat 2048 768) (x : Mat n 768) : Mat n 768 := fun i j =>
  x i j + affine (attention (featM (affine x p.Wq p.bq)) (featM (affine ctx p.Wk p.bk)) (affine ctx p.Wv p.bv)) p.Wo p.bo i j

/-- The rows `h` with the feed-forward block added. -/
def fed {n : ℕ} (p : Weights) (h : Mat n 768) : Mat n 768 := fun i j =>
  h i j + affine (fun a b => max (affine h p.W1 p.b1 a b) 0) p.W2 p.b2 i j

/-- One layer on the rows `x`, its keys and values taken from the rows `ctx`, with the two normalisations given. -/
def layer {n : ℕ} (norm₁ norm₂ : (Fin 768 → EReal) → Fin 768 → EReal) (p : Weights) (ctx : Mat 2048 768)
    (x : Mat n 768) : Mat n 768 :=
  fun i => norm₂ (fed p (fun a => norm₁ (attended p ctx x a)) i)

/-- A layer acts on each row by itself: its result at a row depends on that row and on `ctx`. -/
theorem layer_row {n n' : ℕ} (norm₁ norm₂ : (Fin 768 → EReal) → Fin 768 → EReal) (p : Weights) (ctx : Mat 2048 768)
    (x : Mat n 768) (x' : Mat n' 768) (i : Fin n) (i' : Fin n') (h : x i = x' i') :
    layer norm₁ norm₂ p ctx x i = layer norm₁ norm₂ p ctx x' i' := by
  have hatt : attended p ctx x i = attended p ctx x' i' := by
    funext j
    simp only [attended, affine, mm, attention, num, den, featM, h]
  show norm₂ (fed p _ i) = norm₂ (fed p _ i')
  congr 1
  funext j
  simp only [fed, affine, mm, hatt]

/-- The whole encoder with one normalisation throughout and no gains: the kernel's form. -/
def encoder (p₀ p₁ : Weights) (x : Mat 2048 768) : Mat 2048 768 :=
  fun i => normOnePass (layer normOnePass normOnePass p₁ (layer normOnePass normOnePass p₀ x x)
    (layer normOnePass normOnePass p₀ x x) i)

end Enc

end
-- ==== Proof.VecOps.lean ====
/-
  The kernel's vector operations read as operations on matrices of extended reals: `mat x` is the matrix that a rank-two
  vector holds, and each lemma says which matrix an operation's result holds. A change of format is the identity here.
-/
module

public import proofs.«01_k».proof.Proof.Model
public import proofs.«01_k».proof.Proof.Gen.KernelIdeal
public import Idealize.ShloMosaic.Lib.Pointwise

@[expose] public section

set_option maxRecDepth 16384

noncomputable section

namespace Enc

open Idealize.ShloMosaic Cert.KernelIdeal
open scoped BigOperators

/-- The matrix a rank-two vector holds. -/
def mat {n m : ℕ} {φ : FTy} (x : FVec Ideal (⟨2, ![n, m]⟩ : Shape) φ) : Mat n m := fun i j => x (ix2 i j)

/-- The matrix a rank-three vector with a leading axis of extent one holds. -/
def mat1 {n m : ℕ} {φ : FTy} (x : FVec Ideal (⟨3, ![1, n, m]⟩ : Shape) φ) : Mat n m := fun i j => x (ix3 0 i j)

/-! ## The operations on matrices -/

/-- The sum of two matrices. -/
def addM {n m : ℕ} (a b : Mat n m) : Mat n m := fun i j => a i j + b i j
/-- The difference of two matrices. -/
def subM {n m : ℕ} (a b : Mat n m) : Mat n m := fun i j => a i j - b i j
/-- The entrywise product. -/
def mulM {n m : ℕ} (a b : Mat n m) : Mat n m := fun i j => a i j * b i j
/-- The entrywise quotient. -/
def divM {n m : ℕ} (a b : Mat n m) : Mat n m := fun i j => Ideal.div (a i j) (b i j)
/-- The entrywise maximum. -/
def maxM {n m : ℕ} (a b : Mat n m) : Mat n m := fun i j => max (a i j) (b i j)
/-- The entrywise exponential. -/
def expM {n m : ℕ} (a : Mat n m) : Mat n m := fun i j => Ideal.exp (a i j)
/-- The entrywise reciprocal square root. -/
def rsqrtM {n m : ℕ} (a : Mat n m) : Mat n m := fun i j => Ideal.rsqrt (a i j)
/-- The matrix with one entry everywhere. -/
def constM {n m : ℕ} (c : EReal) : Mat n m := fun _ _ => c
/-- Where the first matrix exceeds the second the third, elsewhere the fourth. -/
def selGt {n m : ℕ} (a b x y : Mat n m) : Mat n m := fun i j => if b i j < a i j then x i j else y i j
/-- One row repeated. -/
def rows {n m : ℕ} (b : Mat 1 m) : Mat n m := fun _ j => b 0 j
/-- One column repeated. -/
def cols {n m : ℕ} (b : Mat n 1) : Mat n m := fun i _ => b i 0
/-- The column of row sums. -/
def rowSums {n m : ℕ} (a : Mat n m) : Mat n 1 := fun i _ => ∑ j, a i j
/-- The row of column sums. -/
def colSums {n m : ℕ} (a : Mat n m) : Mat 1 m := fun _ j => ∑ i, a i j
/-- The product of the first matrix turned over with the second. -/
def mmT {n k m : ℕ} (a : Mat k n) (b : Mat k m) : Mat n m := fun i j => ∑ t, a t i * b t j
/-- The `g`-th group of 256 columns. -/
def grp {n : ℕ} (g : Fin 3) (a : Mat n 768) : Mat n 256 := fun i j => a i ⟨256 * g.val + j.val, by omega⟩
/-- Three groups of 256 columns side by side. -/
def cat3 {n : ℕ} (a b c : Mat n 256) : Mat n 768 := fun i j =>
  if h : j.val < 256 then a i ⟨j.val, h⟩ else
    if h' : j.val - 256 < 256 then b i ⟨j.val - 256, h'⟩ else c i ⟨j.val - 256 - 256, by omega⟩
/-- The matrix turned over. -/
def flip {n m : ℕ} (a : Mat n m) : Mat m n := fun i j => a j i

/-! ## What each operation's result holds -/

section
variable {n m : ℕ} {φ : FTy}

theorem mat_addf (x y : FVec Ideal (⟨2, ![n, m]⟩ : Shape) φ) : mat (addf x y) = addM (mat x) (mat y) := rfl
theorem mat_subf (x y : FVec Ideal (⟨2, ![n, m]⟩ : Shape) φ) : mat (subf x y) = subM (mat x) (mat y) := rfl
theorem mat_mulf (x y : FVec Ideal (⟨2, ![n, m]⟩ : Shape) φ) : mat (mulf x y) = mulM (mat x) (mat y) := rfl
theorem mat_divf (x y : FVec Ideal (⟨2, ![n, m]⟩ : Shape) φ) : mat (divf x y) = divM (mat x) (mat y) := rfl
theorem mat_maximumf (x y : FVec Ideal (⟨2, ![n, m]⟩ : Shape) φ) : mat (maximumf x y) = maxM (mat x) (mat y) := rfl
theorem mat_exp (x : FVec Ideal (⟨2, ![n, m]⟩ : Shape) φ) : mat (exp x) = expM (mat x) := rfl
theorem mat_rsqrt (x : FVec Ideal (⟨2, ![n, m]⟩ : Shape) φ) : mat (rsqrt x) = rsqrtM (mat x) := rfl
theorem mat_truncf (x : FVec Ideal (⟨2, ![n, m]⟩ : Shape) .f32) (h : FTy.bits .bf16 < FTy.bits .f32) :
    mat (truncf .bf16 x h) = mat x := rfl
theorem mat_broadcast (b : BitVec φ.bits) :
    mat (broadcast (⟨2, ![n, m]⟩ : Shape) (Scalar.ofBits φ b : Ideal φ) : FVec Ideal (⟨2, ![n, m]⟩ : Shape) φ)
      = constM (Ideal.ofBits φ b) := rfl

/-- A select on a comparison. -/
theorem mat_select_gt (a b x y : FVec Ideal (⟨2, ![n, m]⟩ : Shape) φ) :
    mat (select (cmpf .ogt a b) x y) = selGt (mat a) (mat b) (mat x) (mat y) := by
  funext i j
  show Scalar.select (Ideal.cmp .ogt (a (ix2 i j)) (b (ix2 i j))) _ _ = _
  by_cases h : b (ix2 i j) < a (ix2 i j) <;> simp [Scalar.select, Ideal.cmp, selGt, mat, h]

end

/-! ### Changes of shape -/

/-- The same shape again. -/
theorem mat_same {n m : ℕ} {φ : FTy} (x : FVec Ideal (⟨2, ![n, m]⟩ : Shape) φ)
    (h : (⟨2, ![n, m]⟩ : Shape).ShapeCasts (⟨2, ![n, m]⟩ : Shape)) :
    mat (shapeCast (⟨2, ![n, m]⟩ : Shape) x h) = mat x := by
  rw [shapeCast_id]

/-- Dropping a leading axis of extent one, at the five shapes that occur. -/
theorem mat_drop_768_768 (w : FVec Ideal S1x768x768 .f32) (h : S1x768x768.ShapeCasts S768x768) :
    mat (shapeCast S768x768 w h) = mat1 w := by
  funext i j; simp only [mat, mat1]; pointwise
theorem mat_drop_768_1024 (w : FVec Ideal S1x768x1024 .f32) (h : S1x768x1024.ShapeCasts S768x1024) :
    mat (shapeCast S768x1024 w h) = mat1 w := by
  funext i j; simp only [mat, mat1]; pointwise
theorem mat_drop_1024_768 (w : FVec Ideal S1x1024x768 .f32) (h : S1x1024x768.ShapeCasts S1024x768) :
    mat (shapeCast S1024x768 w h) = mat1 w := by
  funext i j; simp only [mat, mat1]; pointwise
theorem mat_drop_1_768 (w : FVec Ideal S1x1x768 .f32) (h : S1x1x768.ShapeCasts S1x768) :
    mat (shapeCast S1x768 w h) = mat1 w := by
  funext i j; rw [Subsingleton.elim i 0]; simp only [mat, mat1]; pointwise
theorem mat_drop_1_1024 (w : FVec Ideal S1x1x1024 .f32) (h : S1x1x1024.ShapeCasts S1x1024) :
    mat (shapeCast S1x1024 w h) = mat1 w := by
  funext i j; rw [Subsingleton.elim i 0]; simp only [mat, mat1]; pointwise

/-- A row spread over all rows, and a column over all columns. -/
theorem mat_rows_768 (b : FVec Ideal S1x768 .f32) (h : S1x768.Broadcasts S1024x768) :
    mat (broadcastTo S1024x768 b h) = rows (mat b) := by
  funext i j; simp only [mat, rows]; pointwise
theorem mat_rows_1024 (b : FVec Ideal S1x1024 .f32) (h : S1x1024.Broadcasts S1024x1024) :
    mat (broadcastTo S1024x1024 b h) = rows (mat b) := by
  funext i j; simp only [mat, rows]; pointwise
theorem mat_cols_768 (b : FVec Ideal S1024x1 .f32) (h : S1024x1.Broadcasts S1024x768) :
    mat (broadcastTo S1024x768 b h) = cols (mat b) := by
  funext i j; simp only [mat, cols]; pointwise

/-- A matrix turned over. -/
theorem mat_flip (x : FVec Ideal S768x12 .bf16) (h : S768x12.Transposes [1, 0] S12x768) :
    mat (transpose S12x768 ([1, 0] : List (Fin 2)) x h) = flip (mat x) := by
  funext i j; simp only [mat, flip]; pointwise

/-- The three groups of columns. -/
theorem mat_grp0 (x : FVec Ideal S1024x768 .bf16) (h : S1024x768.Slices ![0, 0] S1024x256) :
    mat (extractStridedSlice S1024x256 ![0, 0] x h) = grp 0 (mat x) := by
  funext i j; simp only [mat, grp]; pointwise
theorem mat_grp1 (x : FVec Ideal S1024x768 .bf16) (h : S1024x768.Slices ![0, 256] S1024x256) :
    mat (extractStridedSlice S1024x256 ![0, 256] x h) = grp 1 (mat x) := by
  funext i j; simp only [mat, grp]; pointwise
theorem mat_grp2 (x : FVec Ideal S1024x768 .bf16) (h : S1024x768.Slices ![0, 512] S1024x256) :
    mat (extractStridedSlice S1024x256 ![0, 512] x h) = grp 2 (mat x) := by
  funext i j; simp only [mat, grp]; pointwise

/-- The three groups side by side. -/
theorem mat_cat3 (a b c : FVec Ideal S1024x256 .f32)
    (h : Shape.Concatenates [S1024x256, S1024x256, S1024x256] S1024x768 1) :
    mat (concatenate S1024x768 1 [⟨S1024x256, a⟩, ⟨S1024x256, b⟩, ⟨S1024x256, c⟩] h) = cat3 (mat a) (mat b) (mat c) := by
  funext i j; simp only [mat, cat3]; pointwise

/-! ### Sums -/

/-- The row sums. -/
theorem mat_rowSums (x : FVec Ideal S1024x768 .f32) (h : S1024x768.Reduces [1] S1024) (hi : FTy.f32 = FTy.f32 ∨ FTy.f32 = FTy.bf16)
    (hs : (0x00000000#32 : BitVec 32) = 0x00000000#32) (h' : S1024.ShapeCasts S1024x1) :
    mat (shapeCast S1024x1 (multiReduction .add ([1] : List (Fin 2)) S1024 x 0x00000000#32 h hi hs) h') = rowSums (mat x) := by
  funext i j; simp only [mat, rowSums]; pointwise

/-- The column sums. -/
theorem mat_colSums (x : FVec Ideal S1024x768 .f32) (h : S1024x768.Reduces [0] S768) (hi : FTy.f32 = FTy.f32 ∨ FTy.f32 = FTy.bf16)
    (hs : (0x00000000#32 : BitVec 32) = 0x00000000#32) (h' : S768.ShapeCasts S1x768) :
    mat (shapeCast S1x768 (multiReduction .add ([0] : List (Fin 2)) S768 x 0x00000000#32 h hi hs) h') = colSums (mat x) := by
  funext i j; simp only [mat, colSums]; pointwise

/-- A select on a mask. -/
theorem mat_select_mask (p : IVec S256x256 1) (x y : FVec Ideal S256x256 .f32) :
    mat (select p x y) = fun i j => Scalar.select (p (ix2 i j)) (mat x i j) (mat y i j) := rfl

section
variable [Cert.KernelIdeal.Facts]

/-! ### Products -/

theorem mat_mm_S1024x768_S768x768 (a : FVec Ideal S1024x768 .bf16) (b : FVec Ideal S768x768 .bf16) :
    mat (matmul dot_S1024x768_S768x768_S1024x768_1_0_0_1_n_n none a b (constant S1024x768 .f32 0x00000000#32)) = mm (mat a) (mat b) := by
  funext i j; simp only [mat, mm]; pointwise [dot_S1024x768_S768x768_S1024x768_1_0_0_1_n_n]
theorem mat_mm_S1024x256_S256x256 (a : FVec Ideal S1024x256 .bf16) (b : FVec Ideal S256x256 .bf16) :
    mat (matmul dot_S1024x256_S256x256_S1024x256_1_0_0_1_n_n none a b (constant S1024x256 .f32 0x00000000#32)) = mm (mat a) (mat b) := by
  funext i j; simp only [mat, mm]; pointwise [dot_S1024x256_S256x256_S1024x256_1_0_0_1_n_n]
theorem mat_mm_S1024x768_S768x12 (a : FVec Ideal S1024x768 .bf16) (b : FVec Ideal S768x12 .bf16) :
    mat (matmul dot_S1024x768_S768x12_S1024x12_1_0_0_1_n_n none a b (constant S1024x12 .f32 0x00000000#32)) = mm (mat a) (mat b) := by
  funext i j; simp only [mat, mm]; pointwise [dot_S1024x768_S768x12_S1024x12_1_0_0_1_n_n]
theorem mat_mm_S1024x12_S12x768 (a : FVec Ideal S1024x12 .bf16) (b : FVec Ideal S12x768 .bf16) :
    mat (matmul dot_S1024x12_S12x768_S1024x768_1_0_0_1_n_n none a b (constant S1024x768 .f32 0x00000000#32)) = mm (mat a) (mat b) := by
  funext i j; simp only [mat, mm]; pointwise [dot_S1024x12_S12x768_S1024x768_1_0_0_1_n_n]
theorem mat_mm_S1024x768_S768x1024 (a : FVec Ideal S1024x768 .bf16) (b : FVec Ideal S768x1024 .bf16) :
    mat (matmul dot_S1024x768_S768x1024_S1024x1024_1_0_0_1_n_n none a b (constant S1024x1024 .f32 0x00000000#32)) = mm (mat a) (mat b) := by
  funext i j; simp only [mat, mm]; pointwise [dot_S1024x768_S768x1024_S1024x1024_1_0_0_1_n_n]
theorem mat_mm_S1024x1024_S1024x768 (a : FVec Ideal S1024x1024 .bf16) (b : FVec Ideal S1024x768 .bf16) :
    mat (matmul dot_S1024x1024_S1024x768_S1024x768_1_0_0_1_n_n none a b (constant S1024x768 .f32 0x00000000#32)) = mm (mat a) (mat b) := by
  funext i j; simp only [mat, mm]; pointwise [dot_S1024x1024_S1024x768_S1024x768_1_0_0_1_n_n]
theorem mat_mmT_S1024x256_S1024x256 (a : FVec Ideal S1024x256 .bf16) (b : FVec Ideal S1024x256 .bf16) :
    mat (matmul dot_S1024x256_S1024x256_S256x256_0_0_1_1_n_n none a b (constant S256x256 .f32 0x00000000#32)) = mmT (mat a) (mat b) := by
  funext i j; simp only [mat, mmT]; pointwise [dot_S1024x256_S1024x256_S256x256_0_0_1_1_n_n]

end

end Enc
end
-- ==== Proof.TileMath.lean ====
/-
  What the kernel computes on a tile of 1024 rows, as matrices: its forms of the normalisation, of the feature map and of
  the linear attention are those of `Model`. The attention is where the work lies. The kernel keeps the state for 256
  columns at a time, with the entries of different heads zeroed by a mask; it sums the normaliser over a head by a product
  with a zero-one matrix and spreads it back by that matrix turned over; and the sums over the 2048 rows are two sums over
  1024 rows.
-/
module

public import proofs.«01_k».proof.Proof.VecOps

@[expose] public section

noncomputable section

namespace Enc

open Idealize.ShloMosaic
open scoped BigOperators

/-- Every row normalised. -/
def normM {n : ℕ} (x : Mat n 768) : Mat n 768 := fun i => normOnePass (x i)

/-- Two matrices of 1024 rows, one above the other. -/
def stack {m : ℕ} (a b : Mat 1024 m) : Mat 2048 m := fun i =>
  if h : i.val < 1024 then a ⟨i.val, h⟩ else b ⟨i.val - 1024, by omega⟩

/-- A matrix kept where the row's and the column's head agree, zero elsewhere. -/
def headOnly (a : Mat 256 256) : Mat 256 256 := fun i j => if i.val / 64 = j.val / 64 then a i j else 0

/-- The zero-one matrix of columns and heads. -/
def headMat : Mat 768 12 := fun a h => if a.val / 64 = h.val then 1 else 0

/-! ## The simple forms -/

/-- The kernel's select between `z + 1` and `exp z` is the feature map. -/
theorem featM_form {n m : ℕ} (z : Mat n m) :
    selGt z (constM (Ideal.ofBits .f32 0x00000000#32)) (addM z (constM (Ideal.ofBits .f32 0x3F800000#32))) (expM z)
      = featM z := by
  funext i j
  simp only [selGt, constM, addM, expM, featM, feat, Ideal.ofBits_zero_f32, Ideal.ofBits_one_f32]

/-- A product with a row added to every row. -/
theorem affine_form {n k m : ℕ} (x : Mat n k) (w : Mat k m) (b : Mat 1 m) : addM (mm x w) (rows b) = affine x w (b 0) := rfl

/-- The kernel's normalisation. -/
theorem normM_form {n : ℕ} (x : Mat n 768) :
    mulM (subM x (cols (divM (rowSums x) (constM (Ideal.ofBits .f32 0x44400000#32)))))
      (cols (rsqrtM (addM (subM (divM (rowSums (mulM x x)) (constM (Ideal.ofBits .f32 0x44400000#32)))
        (mulM (divM (rowSums x) (constM (Ideal.ofBits .f32 0x44400000#32)))
          (divM (rowSums x) (constM (Ideal.ofBits .f32 0x44400000#32)))))
        (constM (Ideal.ofBits .f32 0x3727C5AC#32))))) = normM x := rfl

/-- The maximum with zero. -/
theorem maxM_form {n m : ℕ} (z : Mat n m) :
    maxM z (constM (Ideal.ofBits .f32 0x00000000#32)) = fun i j => max (z i j) 0 := by
  funext i j
  simp only [maxM, constM, Ideal.ofBits_zero_f32]

/-- A sum that starts at zero. -/
theorem zero_addM {n m : ℕ} (z : Mat n m) : addM (constM (Ideal.ofBits .f32 0x00000000#32)) z = z := by
  funext i j
  simp only [addM, constM, Ideal.ofBits_zero_f32, zero_add]

/-! ## Sums over two tiles, and over a head -/

/-- A sum over 2048 rows is the sum over the upper 1024 and that over the lower 1024. -/
theorem sum_two_tiles (f : Fin 2048 → EReal) :
    ∑ s, f s = (∑ t : Fin 1024, f ⟨t.val, by omega⟩) + ∑ t : Fin 1024, f ⟨1024 + t.val, by omega⟩ :=
  Fin.sum_univ_add (a := 1024) (b := 1024) f

theorem stack_upper {m : ℕ} (a b : Mat 1024 m) (t : Fin 1024) : stack a b ⟨t.val, by omega⟩ = a t := by
  simp [stack]

theorem stack_lower {m : ℕ} (a b : Mat 1024 m) (t : Fin 1024) : stack a b ⟨1024 + t.val, by omega⟩ = b t := by
  simp [stack]

/-- A row of a stack is a row of one of the two. -/
theorem stack_affine {k m : ℕ} (a b : Mat 1024 k) (w : Mat k m) (c : Fin m → EReal) :
    affine (stack a b) w c = stack (affine a w c) (affine b w c) := by
  funext i j
  by_cases h : i.val < 1024 <;> simp [affine, mm, stack, h]

theorem stack_featM {m : ℕ} (a b : Mat 1024 m) : featM (stack a b) = stack (featM a) (featM b) := by
  funext i j
  by_cases h : i.val < 1024 <;> simp [featM, stack, h]

/-- The state, summed tile by tile. -/
theorem state_stack (k₀ v₀ k₁ v₁ : Mat 1024 768) (a j : Fin 768) :
    state (stack k₀ k₁) (stack v₀ v₁) a j = (∑ t, k₀ t a * v₀ t j) + ∑ t, k₁ t a * v₁ t j := by
  simp only [state, sum_two_tiles, stack_upper, stack_lower]

/-- The sum of the keys, tile by tile. -/
theorem keySum_stack (k₀ k₁ : Mat 1024 768) (a : Fin 768) :
    keySum (stack k₀ k₁) a = (∑ t, k₀ t a) + ∑ t, k₁ t a := by
  simp only [keySum, sum_two_tiles, stack_upper, stack_lower]

/-- A sum of terms kept on a set of 64 places, counted once each by `e`. -/
theorem sum_kept {n : ℕ} (p : Fin n → Prop) [DecidablePred p] (e : Fin 64 → Fin n) (f : Fin n → EReal)
    (he : ∀ d, p (e d)) (inj : Function.Injective e) (surj : ∀ a, p a → ∃ d, e d = a) :
    (∑ a, if p a then f a else 0) = ∑ d, f (e d) := by
  rw [← Finset.sum_filter]
  symm
  refine Finset.sum_bij (fun d _ => e d) (fun d _ => by simp [he d]) (fun a _ b _ h => inj h) (fun a ha => ?_)
    (fun _ _ => rfl)
  obtain ⟨d, hd⟩ := surj a (by simpa using ha)
  exact ⟨d, Finset.mem_univ _, hd⟩

/-- A sum over the 768 columns of the terms of one head. -/
theorem sum_head (h : Fin 12) (f : Fin 768 → EReal) :
    (∑ a, if a.val / 64 = h.val then f a else 0) = ∑ d, f (col h d) :=
  sum_kept _ (col h) f (fun d => by simp only [col]; omega)
    (fun a b hab => by simp only [col, Fin.mk.injEq] at hab; exact Fin.ext (by omega))
    (fun a ha => ⟨⟨a.val - 64 * h.val, by omega⟩, Fin.ext (by simp only [col]; omega)⟩)

/-- A sum over 256 columns of the terms of one head. -/
theorem sum_head_group (g : Fin 3) (j : Fin 256) (f : Fin 256 → EReal) (f' : Fin 768 → EReal)
    (hf : ∀ t : Fin 256, f t = f' ⟨256 * g.val + t.val, by omega⟩) :
    (∑ t : Fin 256, if t.val / 64 = j.val / 64 then f t else 0)
      = ∑ d, f' (col (headOf ⟨256 * g.val + j.val, by omega⟩) d) := by
  rw [sum_kept (fun t : Fin 256 => t.val / 64 = j.val / 64)
    (fun d => ⟨64 * (j.val / 64) + d.val, by omega⟩) f (fun d => by simp only; omega)
    (fun a b hab => by simp only [Fin.mk.injEq] at hab; exact Fin.ext (by omega))
    (fun a ha => ⟨⟨a.val - 64 * (j.val / 64), by omega⟩, Fin.ext (by simp only; omega)⟩)]
  refine Finset.sum_congr rfl fun d _ => ?_
  rw [hf]
  congr 1
  refine Fin.ext ?_
  simp only [col, headOf]
  omega

/-! ## The attention of a tile -/

/-- The group and the place in it of a column. -/
theorem column_split (j : Fin 768) : ∃ (g : Fin 3) (t : Fin 256), j = ⟨256 * g.val + t.val, by omega⟩ :=
  ⟨⟨j.val / 256, by omega⟩, ⟨j.val % 256, by omega⟩, Fin.ext (by simp only; omega)⟩

/-- Three matrices side by side, at a column of the `g`-th. -/
theorem cat3_apply {n : ℕ} (f : Fin 3 → Mat n 256) (i : Fin n) (g : Fin 3) (t : Fin 256) :
    cat3 (f 0) (f 1) (f 2) i ⟨256 * g.val + t.val, by omega⟩ = f g i t := by
  have h₂ : ¬ 512 + t.val < 256 := by omega
  fin_cases g <;> simp [cat3, h₂]
  all_goals (first | rfl | (split <;> first | omega | (congr 1; refine Fin.ext ?_; simp only; omega) | skip))

/-- The state of the `g`-th group of columns, entries of different heads zeroed. -/
def groupState (g : Fin 3) (k₀ v₀ k₁ v₁ : Mat 1024 768) : Mat 256 256 :=
  headOnly (addM (mmT (grp g k₀) (grp g v₀)) (mmT (grp g k₁) (grp g v₁)))

/-- The numerator: a product with the state of each group of columns. -/
theorem num_form {n : ℕ} (q : Mat n 768) (k₀ v₀ k₁ v₁ : Mat 1024 768) :
    cat3 (mm (grp 0 q) (groupState 0 k₀ v₀ k₁ v₁)) (mm (grp 1 q) (groupState 1 k₀ v₀ k₁ v₁))
      (mm (grp 2 q) (groupState 2 k₀ v₀ k₁ v₁)) = num q (stack k₀ k₁) (stack v₀ v₁) := by
  funext i j
  obtain ⟨g, t, rfl⟩ := column_split j
  rw [cat3_apply (fun g => mm (grp g q) (groupState g k₀ v₀ k₁ v₁))]
  simp only [mm, groupState, headOnly, mul_ite, mul_zero]
  exact sum_head_group g t _
    (fun a => q i a * state (stack k₀ k₁) (stack v₀ v₁) a ⟨256 * g.val + t.val, by omega⟩)
    fun s => by simp only [state_stack, addM, mmT, grp]

/-- The normaliser: summed over a head by the zero-one matrix, and spread back by that matrix turned over. -/
theorem den_form {n : ℕ} (q : Mat n 768) (k₀ k₁ : Mat 1024 768) :
    mm (mm (mulM q (rows (addM (colSums k₀) (colSums k₁)))) headMat) (flip headMat) = den q (stack k₀ k₁) := by
  funext i j
  have hin : ∀ h : Fin 12, mm (mulM q (rows (addM (colSums k₀) (colSums k₁)))) headMat i h
      = ∑ d, q i (col h d) * keySum (stack k₀ k₁) (col h d) := fun h => by
    rw [← sum_head h (fun a => q i a * keySum (stack k₀ k₁) a)]
    simp only [mm, headMat, mul_ite, mul_zero, mul_one, mulM, rows, addM, colSums, keySum_stack]
  show ∑ h, _ * flip headMat h j = _
  rw [Finset.sum_eq_single (headOf j)]
  · rw [hin]
    simp [flip, headMat, headOf, den]
  · intro h _ hne
    have : ¬ j.val / 64 = h.val := fun he => hne (Fin.ext (by simp [headOf, he]))
    simp [flip, headMat, this]
  · intro h
    exact absurd (Finset.mem_univ _) h

/-- The attention of a tile's queries over two tiles of keys and values. -/
theorem attention_form {n : ℕ} (q : Mat n 768) (k₀ v₀ k₁ v₁ : Mat 1024 768) :
    divM (cat3 (mm (grp 0 q) (groupState 0 k₀ v₀ k₁ v₁)) (mm (grp 1 q) (groupState 1 k₀ v₀ k₁ v₁))
        (mm (grp 2 q) (groupState 2 k₀ v₀ k₁ v₁)))
      (addM (mm (mm (mulM q (rows (addM (colSums k₀) (colSums k₁)))) headMat) (flip headMat))
        (constM (Ideal.ofBits .f32 0x358637BD#32))) = attention q (stack k₀ k₁) (stack v₀ v₁) := by
  rw [num_form, den_form]
  rfl

/-- The kernel's state of a group is the one above. -/
theorem groupState_form (g : Fin 3) (k₀ v₀ k₁ v₁ : Mat 1024 768) :
    headOnly (addM (mmT (grp g k₀) (grp g v₀)) (mmT (grp g k₁) (grp g v₁))) = groupState g k₀ v₀ k₁ v₁ := rfl

/-! ## A layer on a tile -/

/-- One layer on the rows `x`, its keys and values taken from the two tiles `x₀` and `x₁`. -/
def tile (p : Weights) (x₀ x₁ x : Mat 1024 768) : Mat 1024 768 := layer normOnePass normOnePass p (stack x₀ x₁) x

/-- What the kernel computes on a tile, its attention read, is a layer. -/
theorem tile_form (p : Weights) (x₀ x₁ x : Mat 1024 768) :
    normM (addM
        (normM (addM x (affine (attention (featM (affine x p.Wq p.bq))
          (stack (featM (affine x₀ p.Wk p.bk)) (featM (affine x₁ p.Wk p.bk)))
          (stack (affine x₀ p.Wv p.bv) (affine x₁ p.Wv p.bv))) p.Wo p.bo)))
        (affine (fun i j => max (affine
          (normM (addM x (affine (attention (featM (affine x p.Wq p.bq))
            (stack (featM (affine x₀ p.Wk p.bk)) (featM (affine x₁ p.Wk p.bk)))
            (stack (affine x₀ p.Wv p.bv) (affine x₁ p.Wv p.bv))) p.Wo p.bo))) p.W1 p.b1 i j) 0) p.W2 p.b2))
      = tile p x₀ x₁ x := by
  simp only [← stack_featM, ← stack_affine]
  rfl

/-- The upper and the lower 1024 rows. -/
def upper {m : ℕ} (a : Mat 2048 m) : Mat 1024 m := fun i => a ⟨i.val, by omega⟩
@[inherit_doc upper]
def lower {m : ℕ} (a : Mat 2048 m) : Mat 1024 m := fun i => a ⟨1024 + i.val, by omega⟩

theorem stack_halves {m : ℕ} (a : Mat 2048 m) : stack (upper a) (lower a) = a := by
  funext i
  by_cases h : i.val < 1024
  · simp [stack, upper, h]
  · simp only [stack, lower, h, dif_neg, not_false_eq_true]
    congr 1
    exact Fin.ext (by simp only; omega)

/-- A layer on the two tiles of a matrix is the layer on the matrix. -/
theorem stack_tiles (p : Weights) (a : Mat 2048 768) :
    stack (tile p (upper a) (lower a) (upper a)) (tile p (upper a) (lower a) (lower a))
      = layer normOnePass normOnePass p a a := by
  simp only [tile, stack_halves]
  funext i
  by_cases h : i.val < 1024
  · simp only [stack, h, dif_pos]
    exact layer_row _ _ p a _ _ _ _ rfl
  · simp only [stack, h, dif_neg, not_false_eq_true]
    refine layer_row _ _ p a _ _ _ _ ?_
    simp only [lower]
    congr 1
    exact Fin.ext (by simp only; omega)

theorem upper_stack {m : ℕ} (a b : Mat 1024 m) : upper (stack a b) = a := by
  funext i
  exact stack_upper a b i

theorem lower_stack {m : ℕ} (a b : Mat 1024 m) : lower (stack a b) = b := by
  funext i
  exact stack_lower a b i

/-- The second layer on two tiles, then the last normalisation, stacked. -/
theorem stack_last (p : Weights) (a b : Mat 1024 768) :
    stack (normM (tile p a b a)) (normM (tile p a b b))
      = fun i => normOnePass (layer normOnePass normOnePass p (stack a b) (stack a b) i) := by
  have h := stack_tiles p (stack a b)
  rw [upper_stack, lower_stack] at h
  rw [← h]
  funext i
  by_cases hi : i.val < 1024 <;> simp [stack, normM, hi]

end Enc

end
-- ==== Proof.KernelMasks.lean ====
/-
  The two patterns the kernel builds from row and column numbers: the mask that keeps a state entry where the row's and
  the column's head agree, and the zero-one matrix of columns and heads. Each integer entry is checked by evaluation.
-/
module

public import proofs.«01_k».proof.Proof.TileMath
public import proofs.«01_k».proof.Proof.Gen.KernelIdeal.Skeleton

@[expose] public section

set_option maxRecDepth 16384

noncomputable section

namespace Enc

open Idealize.ShloMosaic Cert.KernelIdeal Cert.KernelIdeal.Gen
open scoped BigOperators

variable [Cert.KernelIdeal.Facts]

/-- The quotient of a 32-bit number by 64 rounded down, as the kernel computes it: the quotient rounded towards zero, less
    one where the signs differ and a remainder is left. -/
def floor64 (x : BitVec 32) : BitVec 32 :=
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- Of a column's number it is the number of the column's head. -/
theorem floor64_eq : ∀ i : Fin 768, floor64 (BitVec.ofNat 32 i.val) = BitVec.ofNat 32 (i.val / 64) := by
  decide +kernel

/-- Two small numbers are equal as 32-bit numbers when they are equal. -/
theorem ofNat_eq_iff (a b : ℕ) (ha : a < 1000) (hb : b < 1000) : BitVec.ofNat 32 a = BitVec.ofNat 32 b ↔ a = b := by
  refine ⟨fun h => ?_, fun h => by rw [h]⟩
  have := congrArg BitVec.toNat h
  simp only [BitVec.toNat_ofNat] at this
  omega

/-- The comparison of two small numbers. -/
theorem cmpi_eq_ofNat (a b : ℕ) (ha : a < 1000) (hb : b < 1000) :
    IntOp.cmpi .eq (BitVec.ofNat 32 a) (BitVec.ofNat 32 b) = if a = b then 1#1 else 0#1 := by
  by_cases h : a = b
  · subst h; simp [IntOp.cmpi]
  · have hne : ¬ BitVec.ofNat 32 a = BitVec.ofNat 32 b := fun e => h ((ofNat_eq_iff a b ha hb).1 e)
    rw [if_neg h]
    show BitVec.ofBool (BitVec.ofNat 32 a == BitVec.ofNat 32 b) = 0#1
    rw [beq_eq_false_iff_ne.2 hne]
    rfl

/-- The mask is set where the row's and the column's head agree. -/
theorem pay5_apply (i j : Fin 256) :
    k0_pay5 k0_pay2 k0_pay3 k0_pay4 (ix2 i j) = if i.val / 64 = j.val / 64 then 1#1 else 0#1 := by
  have h : k0_pay5 k0_pay2 k0_pay3 k0_pay4 (ix2 i j)
      = IntOp.cmpi .eq (floor64 (BitVec.ofNat 32 i.val)) (floor64 (BitVec.ofNat 32 j.val)) := by
    pointwise [k0_pay5, k0_pay4, k0_pay3, k0_pay2, floor64]
  rw [h, floor64_eq ⟨i.val, by omega⟩, floor64_eq ⟨j.val, by omega⟩]
  exact cmpi_eq_ofNat _ _ (by omega) (by omega)

/-- A select on the mask keeps the entries whose row and column belong to one head. -/
theorem mat_headOnly (p : IVec S256x256 1) (hp : p = k0_pay5 k0_pay2 k0_pay3 k0_pay4) (x : FVec Ideal S256x256 .f32) :
    mat (select p x (broadcast S256x256 (Scalar.ofBits .f32 0x00000000#32))) = headOnly (mat x) := by
  subst hp
  funext i j
  rw [mat_select_mask]
  beta_reduce
  rw [pay5_apply]
  simp only [headOnly]
  by_cases h : i.val / 64 = j.val / 64
  · simp [h, Scalar.select]
  · simp only [h, if_false, Scalar.select]
    exact Ideal.ofBits_zero_f32

/-- The zero-one matrix of columns and heads. -/
theorem mat_headMat : mat (k0_pay6 (F := Ideal)) = headMat := by
  funext a h
  have he : mat (k0_pay6 (F := Ideal)) a h
      = (((BitVec.setWidth 32 (IntOp.cmpi .eq (floor64 (BitVec.ofNat 32 a.val)) (BitVec.ofNat 32 h.val))).toInt : ℝ) : EReal) := by
    simp only [mat]
    pointwise [k0_pay6, floor64]
    rfl
  rw [he, floor64_eq, cmpi_eq_ofNat _ _ (by omega) (by omega)]
  simp only [headMat]
  by_cases h : a.val / 64 = h.val <;> simp [h]

end Enc

end
-- ==== Proof.Params.lean ====
/-
  A layer's weights and biases, taken from the arrays that hold those of both layers.
-/
module

public import proofs.«01_k».proof.Proof.Model
public import Idealize.ShloMosaic.Lib.Pointwise

@[expose] public section

noncomputable section

namespace Enc

open Idealize.ShloMosaic

/-- The matrix at the place `ℓ` of a stack of two. -/
def lead {n m : ℕ} (ℓ : Fin 2) (w : FVec Ideal (⟨3, ![2, n, m]⟩ : Shape) .f32) : Mat n m := fun i j => w (ix3 ℓ i j)

/-- The row at the place `ℓ` of a stack of two. -/
def leadRow {n : ℕ} (ℓ : Fin 2) (b : FVec Ideal (⟨2, ![2, n]⟩ : Shape) .f32) : Fin n → EReal := fun j => b (ix2 ℓ j)

/-- The input's only sequence, as a matrix. -/
def rowsOf (x : FVec Ideal (⟨3, ![1, 2048, 768]⟩ : Shape) .f32) : Mat 2048 768 := fun i j => x (ix3 0 i j)

/-- The weights and biases of the layer `ℓ`. -/
def weightsOf (ℓ : Fin 2) (wq : FVec Ideal (⟨3, ![2, 768, 768]⟩ : Shape) .f32) (bq : FVec Ideal (⟨2, ![2, 768]⟩ : Shape) .f32)
    (wk : FVec Ideal (⟨3, ![2, 768, 768]⟩ : Shape) .f32) (bk : FVec Ideal (⟨2, ![2, 768]⟩ : Shape) .f32)
    (wv : FVec Ideal (⟨3, ![2, 768, 768]⟩ : Shape) .f32) (bv : FVec Ideal (⟨2, ![2, 768]⟩ : Shape) .f32)
    (wo : FVec Ideal (⟨3, ![2, 768, 768]⟩ : Shape) .f32) (bo : FVec Ideal (⟨2, ![2, 768]⟩ : Shape) .f32)
    (w₁ : FVec Ideal (⟨3, ![2, 768, 1024]⟩ : Shape) .f32) (b₁ : FVec Ideal (⟨2, ![2, 1024]⟩ : Shape) .f32)
    (w₂ : FVec Ideal (⟨3, ![2, 1024, 768]⟩ : Shape) .f32) (b₂ : FVec Ideal (⟨2, ![2, 768]⟩ : Shape) .f32) : Weights where
  Wq := lead ℓ wq
  bq := leadRow ℓ bq
  Wk := lead ℓ wk
  bk := leadRow ℓ bk
  Wv := lead ℓ wv
  bv := leadRow ℓ bv
  Wo := lead ℓ wo
  bo := leadRow ℓ bo
  W1 := lead ℓ w₁
  b1 := leadRow ℓ b₁
  W2 := lead ℓ w₂
  b2 := leadRow ℓ b₂

end Enc

end
-- ==== Proof.KernelArray.lean ====
/-
  The array the kernel leaves, as a matrix: the two layers on the two tiles of the block of rows, then the last
  normalisation. The upper tile's and the lower tile's rows are stored after the first layer and stored over after the
  second, which reads them back.
-/
module

public import proofs.«01_k».proof.Proof.KernelMasks
public import proofs.«01_k».proof.Proof.Params
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Enc

open Cert.KernelIdeal Cert.KernelIdeal.Gen Idealize.ShloMosaic Idealize.ShloMosaic.TcCoe Idealize.SL.Sem

/-- The weights and biases of the layer `ℓ`, from the arrays that hold those of both layers. -/
def weightsAt (ℓ : Fin 2) (wq : FVec Ideal S2x768x768 .f32) (bq : FVec Ideal S2x1x768 .f32)
    (wk : FVec Ideal S2x768x768 .f32) (bk : FVec Ideal S2x1x768 .f32) (wv : FVec Ideal S2x768x768 .f32)
    (bv : FVec Ideal S2x1x768 .f32) (wo : FVec Ideal S2x768x768 .f32) (bo : FVec Ideal S2x1x768 .f32)
    (w₁ : FVec Ideal S2x768x1024 .f32) (b₁ : FVec Ideal S2x1x1024 .f32) (w₂ : FVec Ideal S2x1024x768 .f32)
    (b₂ : FVec Ideal S2x1x768 .f32) : Weights where
  Wq := lead ℓ wq
  bq := lead ℓ bq 0
  Wk := lead ℓ wk
  bk := lead ℓ bk 0
  Wv := lead ℓ wv
  bv := lead ℓ bv 0
  Wo := lead ℓ wo
  bo := lead ℓ bo 0
  W1 := lead ℓ w₁
  b1 := lead ℓ b₁ 0
  W2 := lead ℓ w₂
  b2 := lead ℓ b₂ 0

/-! ## Loads -/

/-- A load of the upper and one of the lower 1024 rows. -/
theorem ld_upper (x : Vec Ideal S2048x768 .f32) (h) :
    mat (n := 1024) (m := 768) (φ := .f32) (View.ld (Val := Elt Ideal) (e' := .f32) x (Rect.unit ![0, 0] ![1024, 768] h)) = upper (mat (φ := .f32) x) := by
  funext i j; simp only [mat, upper]; pointwise
theorem ld_lower (x : Vec Ideal S2048x768 .f32) (h) :
    mat (n := 1024) (m := 768) (φ := .f32) (View.ld (Val := Elt Ideal) (e' := .f32) x (Rect.unit ![1024, 0] ![1024, 768] h)) = lower (mat (φ := .f32) x) := by
  funext i j; simp only [mat, lower]; pointwise

/-- Loads of the first and of the second layer's matrix, at the five shapes that occur. -/
theorem ld_768_768_0 (w : Vec Ideal S2x768x768 .f32) (h) :
    mat1 (n := 768) (m := 768) (φ := .f32) (View.ld (Val := Elt Ideal) (e' := .f32) w (Rect.unit ![0, 0, 0] ![1, 768, 768] h)) = lead 0 w := by
  funext i j; simp only [mat1, lead]; pointwise
theorem ld_768_768_1 (w : Vec Ideal S2x768x768 .f32) (h) :
    mat1 (n := 768) (m := 768) (φ := .f32) (View.ld (Val := Elt Ideal) (e' := .f32) w (Rect.unit ![1, 0, 0] ![1, 768, 768] h)) = lead 1 w := by
  funext i j; simp only [mat1, lead]; pointwise
theorem ld_768_1024_0 (w : Vec Ideal S2x768x1024 .f32) (h) :
    mat1 (n := 768) (m := 1024) (φ := .f32) (View.ld (Val := Elt Ideal) (e' := .f32) w (Rect.unit ![0, 0, 0] ![1, 768, 1024] h)) = lead 0 w := by
  funext i j; simp only [mat1, lead]; pointwise
theorem ld_768_1024_1 (w : Vec Ideal S2x768x1024 .f32) (h) :
    mat1 (n := 768) (m := 1024) (φ := .f32) (View.ld (Val := Elt Ideal) (e' := .f32) w (Rect.unit ![1, 0, 0] ![1, 768, 1024] h)) = lead 1 w := by
  funext i j; simp only [mat1, lead]; pointwise
theorem ld_1024_768_0 (w : Vec Ideal S2x1024x768 .f32) (h) :
    mat1 (n := 1024) (m := 768) (φ := .f32) (View.ld (Val := Elt Ideal) (e' := .f32) w (Rect.unit ![0, 0, 0] ![1, 1024, 768] h)) = lead 0 w := by
  funext i j; simp only [mat1, lead]; pointwise
theorem ld_1024_768_1 (w : Vec Ideal S2x1024x768 .f32) (h) :
    mat1 (n := 1024) (m := 768) (φ := .f32) (View.ld (Val := Elt Ideal) (e' := .f32) w (Rect.unit ![1, 0, 0] ![1, 1024, 768] h)) = lead 1 w := by
  funext i j; simp only [mat1, lead]; pointwise
theorem ld_1_768_0 (w : Vec Ideal S2x1x768 .f32) (h) :
    mat1 (n := 1) (m := 768) (φ := .f32) (View.ld (Val := Elt Ideal) (e' := .f32) w (Rect.unit ![0, 0, 0] ![1, 1, 768] h)) = lead 0 w := by
  funext i j; rw [Subsingleton.elim i 0]; simp only [mat1, lead]; pointwise
theorem ld_1_768_1 (w : Vec Ideal S2x1x768 .f32) (h) :
    mat1 (n := 1) (m := 768) (φ := .f32) (View.ld (Val := Elt Ideal) (e' := .f32) w (Rect.unit ![1, 0, 0] ![1, 1, 768] h)) = lead 1 w := by
  funext i j; rw [Subsingleton.elim i 0]; simp only [mat1, lead]; pointwise
theorem ld_1_1024_0 (w : Vec Ideal S2x1x1024 .f32) (h) :
    mat1 (n := 1) (m := 1024) (φ := .f32) (View.ld (Val := Elt Ideal) (e' := .f32) w (Rect.unit ![0, 0, 0] ![1, 1, 1024] h)) = lead 0 w := by
  funext i j; rw [Subsingleton.elim i 0]; simp only [mat1, lead]; pointwise
theorem ld_1_1024_1 (w : Vec Ideal S2x1x1024 .f32) (h) :
    mat1 (n := 1) (m := 1024) (φ := .f32) (View.ld (Val := Elt Ideal) (e' := .f32) w (Rect.unit ![1, 0, 0] ![1, 1, 1024] h)) = lead 1 w := by
  funext i j; rw [Subsingleton.elim i 0]; simp only [mat1, lead]; pointwise

/-! ## The tiles -/

/-- The stores of the lower and of the upper rows, made last, leave the two tiles stacked. -/
theorem canon_halves (z₁ z₀ : Vec Ideal S1024x768 .f32) (h₁ h₀) (L : List (View.Piece (Elt Ideal) S2048x768 .f32))
    (i : Fin 2048) (j : Fin 768) :
    View.canon (⟨Rect.unit ![1024, 0] ![1024, 768] h₁, z₁⟩ :: ⟨Rect.unit ![0, 0] ![1024, 768] h₀, z₀⟩ :: L) (ix2 i j)
      = stack (mat (φ := .f32) z₀) (mat (φ := .f32) z₁) i j := by
  by_cases h : i.val < 1024
  · rw [View.canon_cons_of_not_mem _ _ (by
      rw [Rect.mem_set_unit]
      intro hh
      have := (hh 0).1
      simp at this
      omega)]
    have e : ix2 i j = (Rect.unit (s := S2048x768) ![0, 0] ![1024, 768] h₀).emb (ix2 (⟨i.val, h⟩ : Fin 1024) j) := by
      funext a
      refine Fin.ext ?_
      rw [ValueKit.rect_emb_unit_val]
      fin_cases a <;> simp
    rw [e, View.canon_cons_emb]
    simp [stack, h, mat]
  · have e : ix2 i j = (Rect.unit (s := S2048x768) ![1024, 0] ![1024, 768] h₁).emb
        (ix2 (⟨i.val - 1024, by omega⟩ : Fin 1024) j) := by
      funext a
      refine Fin.ext ?_
      rw [ValueKit.rect_emb_unit_val]
      fin_cases a <;> simp
      omega
    rw [e, View.canon_cons_emb]
    simp [stack, h, mat]

variable (m : (ℓ : Loc nD τ sig) → Buf (Elt Ideal) ℓ)

/-- The weights of the layer `ℓ` among the blocks the kernel loads. -/
def blockWeights (ℓ : Fin 2) (c : Dev nD) (t : Fin cfg0.N) : Weights :=
  weightsAt ℓ (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t)

set_option maxHeartbeats 1000000 in
/-- The block the kernel leaves is the encoder on the blocks it loads: the two layers, then the last normalisation. -/
theorem block_value (c : Dev nD) (t : Fin cfg0.N) (i : Fin 2048) (j : Fin 768) :
    (outsAt0 m c t : Vec Ideal S2048x768 .f32) (ix2 i j)
      = encoder (blockWeights m 0 c t) (blockWeights m 1 c t) (mat (φ := .f32) (iblk m c 0 t)) i j := by
  unfold outsAt0
  frame_open
  simp (disch := decide) only [↓ View.readCov_skip, ↓ View.readCov_cons_toLoadRect, ↓ View.readCov_fill]
  frame_out
  simp only [read_unread_whole]
  generalize hp : k0_pay5 _ _ _ = p
  replace hp : p = k0_pay5 k0_pay2 k0_pay3 k0_pay4 := hp.symm
  generalize hy₀ : k0_pay37 (F := Ideal) _ _ _ = y₀
  generalize hy₁ : k0_pay46 (F := Ideal) _ _ _ _ _ _ = y₁
  generalize hz₀ : k0_pay83 (F := Ideal) _ _ = z₀
  generalize hz₁ : k0_pay1 (F := Ideal) _ _ _ = z₁
  replace hy₀ := congrArg mat hy₀
  replace hy₁ := congrArg mat hy₁
  replace hz₀ := congrArg mat hz₀
  replace hz₁ := congrArg mat hz₁
  simp only [k0_pay1, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90,
    mat_addf, mat_subf, mat_mulf, mat_divf, mat_maximumf, mat_exp, mat_rsqrt, mat_truncf, mat_broadcast,
    mat_select_gt, mat_same, mat_drop_768_768, mat_drop_768_1024, mat_drop_1024_768, mat_drop_1_768,
    mat_drop_1_1024, mat_rows_768, mat_rows_1024, mat_cols_768, mat_flip, mat_grp0, mat_grp1, mat_grp2, mat_cat3,
    mat_rowSums, mat_colSums, mat_mm_S1024x768_S768x768, mat_mm_S1024x256_S256x256, mat_mm_S1024x768_S768x12,
    mat_mm_S1024x12_S12x768, mat_mm_S1024x768_S768x1024, mat_mm_S1024x1024_S1024x768, mat_mmT_S1024x256_S1024x256,
    mat_headOnly p hp, mat_headMat, featM_form, affine_form, normM_form, maxM_form, zero_addM, groupState_form,
    attention_form, ld_upper, ld_lower, ld_768_768_0, ld_768_768_1, ld_768_1024_0, ld_768_1024_1, ld_1024_768_0,
    ld_1024_768_1, ld_1_768_0, ld_1_768_1, ld_1_1024_0, ld_1_1024_1] at hy₀ hy₁ hz₀ hz₁
  rw [canon_halves]
  generalize mat (φ := .f32) (iblk m c 0 t) = X at hy₀ hy₁ ⊢
  have ey₀ := (tile_form (blockWeights m 0 c t) (upper X) (lower X) (upper X)).symm.trans hy₀
  have ey₁ := (tile_form (blockWeights m 0 c t) (upper X) (lower X) (lower X)).symm.trans hy₁
  have ez₀ := (congrArg normM (tile_form (blockWeights m 1 c t) (mat y₀) (mat y₁) (mat y₀))).symm.trans hz₀
  have ez₁ := (congrArg normM (tile_form (blockWeights m 1 c t) (mat y₀) (mat y₁) (mat y₁))).symm.trans hz₁
  clear hy₀ hy₁ hz₀ hz₁
  rw [← ez₀, ← ez₁, stack_last, ← ey₀, ← ey₁, stack_tiles]
  rfl

end Enc

end
-- ==== Proof.KernelValue.lean ====
/-
  The kernel's result as a function of its arguments: the block it works on is the whole array, and the blocks it loads are
  the arguments, the input and the biases with an axis dropped or added beforehand.
-/
module

public import proofs.«01_k».proof.Proof.KernelArray

@[expose] public section

set_option maxRecDepth 16384

noncomputable section

namespace Enc

open Cert.KernelIdeal Cert.KernelIdeal.Gen Idealize.ShloMosaic Idealize.ShloMosaic.TcCoe Idealize.SL.Sem

variable (m : (ℓ : Loc nD τ sig) → Buf (Elt Ideal) ℓ)

/-! ## The blocks loaded -/

/-- The grid has one point, and every window's block there is the first. -/
theorem first_block (t : Fin cfg0.N) :
    (∀ a, win0_0.index t a = 0) ∧ (∀ a, win0_1.index t a = 0) ∧ (∀ a, win0_2.index t a = 0) ∧ (∀ a, win0_3.index t a = 0)
      ∧ (∀ a, win0_4.index t a = 0) ∧ (∀ a, win0_5.index t a = 0) ∧ (∀ a, win0_6.index t a = 0)
      ∧ (∀ a, win0_7.index t a = 0) ∧ (∀ a, win0_8.index t a = 0) ∧ (∀ a, win0_9.index t a = 0)
      ∧ (∀ a, win0_10.index t a = 0) ∧ (∀ a, win0_11.index t a = 0) ∧ (∀ a, win0_12.index t a = 0)
      ∧ (∀ a, win0_13.index t a = 0) :=
  (by decide +kernel : ∀ t : Fin grid0.N,
    (∀ a, win0_0.index t a = 0) ∧ (∀ a, win0_1.index t a = 0) ∧ (∀ a, win0_2.index t a = 0) ∧ (∀ a, win0_3.index t a = 0)
      ∧ (∀ a, win0_4.index t a = 0) ∧ (∀ a, win0_5.index t a = 0) ∧ (∀ a, win0_6.index t a = 0)
      ∧ (∀ a, win0_7.index t a = 0) ∧ (∀ a, win0_8.index t a = 0) ∧ (∀ a, win0_9.index t a = 0)
      ∧ (∀ a, win0_10.index t a = 0) ∧ (∀ a, win0_11.index t a = 0) ∧ (∀ a, win0_12.index t a = 0)
      ∧ (∀ a, win0_13.index t a = 0)) t

/-- The input's block is the input's only sequence. -/
theorem block_rows (c : Dev nD) (t : Fin cfg0.N) :
    mat (φ := .f32) (iblk m c 0 t : Vec Ideal S2048x768 .f32)
      = rowsOf (m ((c : Thread nD τ).loc main_arg0) : Vec Ideal S1x2048x768 .f32) := by
  funext i j
  simp only [mat, rowsOf]
  blk_ext! [iblk, V, (first_block t).1]

/-- The block of the query weight is the argument. -/
theorem block_1 (c : Dev nD) (t : Fin cfg0.N) (ℓ : Fin 2) :
    lead ℓ (iblk m c 1 t : Vec Ideal S2x768x768 .f32) = lead ℓ (m ((c : Thread nD τ).loc main_arg1) : Vec Ideal S2x768x768 .f32) := by
  funext i j
  simp only [lead]
  blk_ext! [iblk, V, (first_block t).2.1]

/-- The block of the key weight is the argument. -/
theorem block_3 (c : Dev nD) (t : Fin cfg0.N) (ℓ : Fin 2) :
    lead ℓ (iblk m c 3 t : Vec Ideal S2x768x768 .f32) = lead ℓ (m ((c : Thread nD τ).loc main_arg3) : Vec Ideal S2x768x768 .f32) := by
  funext i j
  simp only [lead]
  blk_ext! [iblk, V, (first_block t).2.2.2.1]

/-- The block of the value weight is the argument. -/
theorem block_5 (c : Dev nD) (t : Fin cfg0.N) (ℓ : Fin 2) :
    lead ℓ (iblk m c 5 t : Vec Ideal S2x768x768 .f32) = lead ℓ (m ((c : Thread nD τ).loc main_arg5) : Vec Ideal S2x768x768 .f32) := by
  funext i j
  simp only [lead]
  blk_ext! [iblk, V, (first_block t).2.2.2.2.2.1]

/-- The block of the output weight is the argument. -/
theorem block_7 (c : Dev nD) (t : Fin cfg0.N) (ℓ : Fin 2) :
    lead ℓ (iblk m c 7 t : Vec Ideal S2x768x768 .f32) = lead ℓ (m ((c : Thread nD τ).loc main_arg7) : Vec Ideal S2x768x768 .f32) := by
  funext i j
  simp only [lead]
  blk_ext! [iblk, V, (first_block t).2.2.2.2.2.2.2.1]

/-- The block of the first feed-forward weight is the argument. -/
theorem block_9 (c : Dev nD) (t : Fin cfg0.N) (ℓ : Fin 2) :
    lead ℓ (iblk m c 9 t : Vec Ideal S2x768x1024 .f32) = lead ℓ (m ((c : Thread nD τ).loc main_arg11) : Vec Ideal S2x768x1024 .f32) := by
  funext i j
  simp only [lead]
  blk_ext! [iblk, V, (first_block t).2.2.2.2.2.2.2.2.2.1]

/-- The block of the second feed-forward weight is the argument. -/
theorem block_11 (c : Dev nD) (t : Fin cfg0.N) (ℓ : Fin 2) :
    lead ℓ (iblk m c 11 t : Vec Ideal S2x1024x768 .f32) = lead ℓ (m ((c : Thread nD τ).loc main_arg13) : Vec Ideal S2x1024x768 .f32) := by
  funext i j
  simp only [lead]
  blk_ext! [iblk, V, (first_block t).2.2.2.2.2.2.2.2.2.2.2.1]

/-- The block of the query bias is the argument, with an axis of extent one added. -/
theorem block_2 (c : Dev nD) (t : Fin cfg0.N) (ℓ : Fin 2) :
    lead ℓ (iblk m c 2 t : Vec Ideal S2x1x768 .f32) 0
      = leadRow ℓ (m ((c : Thread nD τ).loc main_arg2) : Vec Ideal S2x768 .f32) := by
  funext j
  simp only [lead, leadRow]
  blk_ext! [iblk, V, (first_block t).2.2.1]

/-- The block of the key bias is the argument, with an axis of extent one added. -/
theorem block_4 (c : Dev nD) (t : Fin cfg0.N) (ℓ : Fin 2) :
    lead ℓ (iblk m c 4 t : Vec Ideal S2x1x768 .f32) 0
      = leadRow ℓ (m ((c : Thread nD τ).loc main_arg4) : Vec Ideal S2x768 .f32) := by
  funext j
  simp only [lead, leadRow]
  blk_ext! [iblk, V, (first_block t).2.2.2.2.1]

/-- The block of the value bias is the argument, with an axis of extent one added. -/
theorem block_6 (c : Dev nD) (t : Fin cfg0.N) (ℓ : Fin 2) :
    lead ℓ (iblk m c 6 t : Vec Ideal S2x1x768 .f32) 0
      = leadRow ℓ (m ((c : Thread nD τ).loc main_arg6) : Vec Ideal S2x768 .f32) := by
  funext j
  simp only [lead, leadRow]
  blk_ext! [iblk, V, (first_block t).2.2.2.2.2.2.1]

/-- The block of the output bias is the argument, with an axis of extent one added. -/
theorem block_8 (c : Dev nD) (t : Fin cfg0.N) (ℓ : Fin 2) :
    lead ℓ (iblk m c 8 t : Vec Ideal S2x1x768 .f32) 0
      = leadRow ℓ (m ((c : Thread nD τ).loc main_arg8) : Vec Ideal S2x768 .f32) := by
  funext j
  simp only [lead, leadRow]
  blk_ext! [iblk, V, (first_block t).2.2.2.2.2.2.2.2.1]

/-- The block of the first feed-forward bias is the argument, with an axis of extent one added. -/
theorem block_10 (c : Dev nD) (t : Fin cfg0.N) (ℓ : Fin 2) :
    lead ℓ (iblk m c 10 t : Vec Ideal S2x1x1024 .f32) 0
      = leadRow ℓ (m ((c : Thread nD τ).loc main_arg12) : Vec Ideal S2x1024 .f32) := by
  funext j
  simp only [lead, leadRow]
  blk_ext! [iblk, V, (first_block t).2.2.2.2.2.2.2.2.2.2.1]

/-- The block of the second feed-forward bias is the argument, with an axis of extent one added. -/
theorem block_12 (c : Dev nD) (t : Fin cfg0.N) (ℓ : Fin 2) :
    lead ℓ (iblk m c 12 t : Vec Ideal S2x1x768 .f32) 0
      = leadRow ℓ (m ((c : Thread nD τ).loc main_arg14) : Vec Ideal S2x768 .f32) := by
  funext j
  simp only [lead, leadRow]
  blk_ext! [iblk, V, (first_block t).2.2.2.2.2.2.2.2.2.2.2.2.1]

/-- The layer `ℓ`'s weights and biases, from the arguments. -/
def argWeights (ℓ : Fin 2) (c : Dev nD) : Weights :=
  weightsOf ℓ (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg11)) (m ((c : Thread nD τ).loc main_arg12)) (m ((c : Thread nD τ).loc main_arg13)) (m ((c : Thread nD τ).loc main_arg14))

/-- The weights that the body loads for the layer `ℓ` are the arguments' of that layer. -/
theorem block_weights (c : Dev nD) (t : Fin cfg0.N) (ℓ : Fin 2) : blockWeights m ℓ c t = argWeights m ℓ c := by
  simp only [blockWeights, weightsAt, argWeights, weightsOf, block_1, block_2, block_3, block_4, block_5, block_6, block_7,
    block_8, block_9, block_10, block_11, block_12]

/-! ## The array left -/

/-- The array that the kernel leaves holds the encoder's value on its arguments. -/
theorem array_value (c : Dev nD) (i : Fin 2048) (j : Fin 768) :
    ((dats m 0 c).arrAt 13 cfg0.N : Vec Ideal S2048x768 .f32) (ix2 i j)
      = encoder (argWeights m 0 c) (argWeights m 1 c)
          (rowsOf (m ((c : Thread nD τ).loc main_arg0) : Vec Ideal S1x2048x768 .f32)) i j := by
  have h : ((dats m 0 c).arrAt 13 cfg0.N : Vec Ideal S2048x768 .f32) = (outsAt0 m c t0_0 : Vec Ideal S2048x768 .f32) := by
    refine (dats m 0 c).arrAt_eq_of_covers 13 _ (by decide +kernel) fun t hf y => ?_
    obtain rfl : t = t0_0 := (by decide +kernel : ∀ t : Fin cfg0.N, t = t0_0) t
    blk_simp
    rw [after0_13]
    blk_ext! [(first_block t0_0).2.2.2.2.2.2.2.2.2.2.2.2.2]
  rw [h, block_value, block_weights, block_weights, block_rows]

end Enc

end
-- ==== Proof.RefOps.lean ====
/-
  The reference's vector operations read as operations on matrices of extended reals: `seq x` is the matrix that a vector
  with a leading axis of extent one holds, `heads x` the one whose columns run over the heads and the entries of each.
-/
module

public import proofs.«01_k».proof.Proof.Params
public import proofs.«01_k».proof.Proof.Gen.ReferenceIdeal
public import Idealize.ShloMosaic.Lib.Pointwise

@[expose] public section

set_option maxRecDepth 16384

noncomputable section

namespace Enc.Ref

open Idealize.ShloMosaic Cert.ReferenceIdeal
open scoped BigOperators

/-- The matrix a rank-two vector holds. -/
def flat {n m : ℕ} (x : FVec Ideal (⟨2, ![n, m]⟩ : Shape) .f32) : Mat n m := fun i j => x (ix2 i j)

/-- The row a rank-one vector holds. -/
def row {n : ℕ} (x : FVec Ideal (⟨1, ![n]⟩ : Shape) .f32) : Fin n → EReal := fun j => x (ix1 j)

/-- The matrix a rank-three vector with a leading axis of extent one holds. -/
def seq {n m : ℕ} (x : FVec Ideal (⟨3, ![1, n, m]⟩ : Shape) .f32) : Mat n m := fun i j => x (ix3 0 i j)

/-- The entry of a column within its head. -/
def entry (j : Fin 768) : Fin 64 := ⟨j.val % 64, Nat.mod_lt _ (by norm_num)⟩

/-- The matrix a vector split into heads holds. -/
def heads (x : FVec Ideal S1x2048x12x64 .f32) : Mat 2048 768 := fun i j => x (ix4 0 i (headOf j) (entry j))

/-- The head of a head's column is that head. -/
theorem headOf_col (h : Fin 12) (d : Fin 64) : headOf (col h d) = h := Fin.ext (by simp only [headOf, col]; omega)

/-- The entry of a head's column is the column's own. -/
theorem entry_col (h : Fin 12) (d : Fin 64) : entry (col h d) = d := Fin.ext (by simp only [entry, col]; omega)

/-- Subtracting one from an exponential and adding it again changes nothing, at the infinities too. -/
theorem exp_sub_one_add_one (t : EReal) : Ideal.exp t - 1 + 1 = Ideal.exp t :=
  EReal.sub_add_cancel (b := 1)

variable [Facts]

/-! ## Parameters -/

/-- A layer's matrix, cut out of the stack: both layers, at the three shapes that occur. -/
theorem flat_768_768_0 (w : FVec Ideal S2x768x768 .f32) (h h') :
    flat (n := 768) (m := 768) (shapeCast S768x768 (extractStridedSlice S1x768x768 ![0, 0, 0] w h) h') = lead 0 w := by
  funext i j; simp only [flat, lead]; pointwise
theorem flat_768_768_1 (w : FVec Ideal S2x768x768 .f32) (h h') :
    flat (n := 768) (m := 768) (shapeCast S768x768 (extractStridedSlice S1x768x768 ![1, 0, 0] w h) h') = lead 1 w := by
  funext i j; simp only [flat, lead]; pointwise
theorem flat_768_1024_0 (w : FVec Ideal S2x768x1024 .f32) (h h') :
    flat (n := 768) (m := 1024) (shapeCast S768x1024 (extractStridedSlice S1x768x1024 ![0, 0, 0] w h) h') = lead 0 w := by
  funext i j; simp only [flat, lead]; pointwise
theorem flat_768_1024_1 (w : FVec Ideal S2x768x1024 .f32) (h h') :
    flat (n := 768) (m := 1024) (shapeCast S768x1024 (extractStridedSlice S1x768x1024 ![1, 0, 0] w h) h') = lead 1 w := by
  funext i j; simp only [flat, lead]; pointwise
theorem flat_1024_768_0 (w : FVec Ideal S2x1024x768 .f32) (h h') :
    flat (n := 1024) (m := 768) (shapeCast S1024x768 (extractStridedSlice S1x1024x768 ![0, 0, 0] w h) h') = lead 0 w := by
  funext i j; simp only [flat, lead]; pointwise
theorem flat_1024_768_1 (w : FVec Ideal S2x1024x768 .f32) (h h') :
    flat (n := 1024) (m := 768) (shapeCast S1024x768 (extractStridedSlice S1x1024x768 ![1, 0, 0] w h) h') = lead 1 w := by
  funext i j; simp only [flat, lead]; pointwise

/-- A layer's bias or gain, cut out of the stack: both layers, at the two lengths that occur. -/
theorem row_768_0 (b : FVec Ideal S2x768 .f32) (h h') :
    row (n := 768) (shapeCast S768 (extractStridedSlice S1x768 ![0, 0] b h) h') = leadRow 0 b := by
  funext j; simp only [row, leadRow]; pointwise
theorem row_768_1 (b : FVec Ideal S2x768 .f32) (h h') :
    row (n := 768) (shapeCast S768 (extractStridedSlice S1x768 ![1, 0] b h) h') = leadRow 1 b := by
  funext j; simp only [row, leadRow]; pointwise
theorem row_1024_0 (b : FVec Ideal S2x1024 .f32) (h h') :
    row (n := 1024) (shapeCast S1024 (extractStridedSlice S1x1024 ![0, 0] b h) h') = leadRow 0 b := by
  funext j; simp only [row, leadRow]; pointwise
theorem row_1024_1 (b : FVec Ideal S2x1024 .f32) (h h') :
    row (n := 1024) (shapeCast S1024 (extractStridedSlice S1x1024 ![1, 0] b h) h') = leadRow 1 b := by
  funext j; simp only [row, leadRow]; pointwise

/-! ## Products -/

/-- A product with a weight and a bias, at the three shapes that occur. -/
theorem seq_affine_768_768 (x : FVec Ideal S1x2048x768 .f32) (w : FVec Ideal S768x768 .f32) (b : FVec Ideal S768 .f32) (h₁ h₂) :
    seq (n := 2048) (m := 768) (addf (Host.dotGeneral dot_S1x2048x768_S768x768_S1x2048x768_2_0_01_1_n_n none x w)
        (broadcastInDim S1x2048x768 ![0, 1, 2] h₁ (broadcastInDim S1x1x768 ![2] h₂ b)))
      = affine (seq x) (flat w) (row b) := by
  funext i j; simp only [seq, flat, row, affine, mm]; pointwise
theorem seq_affine_768_1024 (x : FVec Ideal S1x2048x768 .f32) (w : FVec Ideal S768x1024 .f32) (b : FVec Ideal S1024 .f32) (h₁ h₂) :
    seq (n := 2048) (m := 1024) (addf (Host.dotGeneral dot_S1x2048x768_S768x1024_S1x2048x1024_2_0_01_1_n_n none x w)
        (broadcastInDim S1x2048x1024 ![0, 1, 2] h₁ (broadcastInDim S1x1x1024 ![2] h₂ b)))
      = affine (seq x) (flat w) (row b) := by
  funext i j; simp only [seq, flat, row, affine, mm]; pointwise
theorem seq_affine_1024_768 (x : FVec Ideal S1x2048x1024 .f32) (w : FVec Ideal S1024x768 .f32) (b : FVec Ideal S768 .f32) (h₁ h₂) :
    seq (n := 2048) (m := 768) (addf (Host.dotGeneral dot_S1x2048x1024_S1024x768_S1x2048x768_2_0_01_1_n_n none x w)
        (broadcastInDim S1x2048x768 ![0, 1, 2] h₁ (broadcastInDim S1x1x768 ![2] h₂ b)))
      = affine (seq x) (flat w) (row b) := by
  funext i j; simp only [seq, flat, row, affine, mm]; pointwise

/-- The larger of an entry and zero. -/
theorem seq_relu (y : FVec Ideal S1x2048x1024 .f32) (h) :
    seq (n := 2048) (m := 1024) (maximumf y (broadcastInDim S1x2048x1024 ![] h (constant S_ .f32 0x00000000#32)))
      = fun i j => max (seq y i j) 0 := by
  funext i j; simp only [seq]; pointwise

/-- The sum of two. -/
theorem seq_add (x y : FVec Ideal S1x2048x768 .f32) : seq (n := 2048) (m := 768) (addf x y) = fun i j => seq x i j + seq y i j := by
  funext i j; simp only [seq]; pointwise

/-- The leading axis dropped. -/
theorem flat_drop (x : FVec Ideal S1x2048x768 .f32) (h) : flat (n := 2048) (m := 768) (shapeCast S2048x768 x h) = seq x := by
  funext i j; simp only [flat, seq]; pointwise

/-- Splitting the columns into heads moves nothing. -/
theorem heads_split (x : FVec Ideal S1x2048x768 .f32) (h) : heads (shapeCast S1x2048x12x64 x h) = seq x := by
  funext i j; simp only [seq, heads, headOf, entry]; pointwise

/-- The feature map, written as `elu t + 1`. -/
theorem heads_feature (q : FVec Ideal S1x2048x12x64 .f32) (h₁ h₂ h₃ h₄ h₅) :
    heads (addf (select (cmpf .ogt q (broadcastInDim S1x2048x12x64 ![] h₁ (constant S_ .f32 0x00000000#32))) q
        (mulf (broadcastInDim S1x2048x12x64 ![] h₂ (constant S_ .f32 0x3F800000#32))
          (Host.expm1 (select (cmpf .ogt q (broadcastInDim S1x2048x12x64 ![] h₃ (constant S_ .f32 0x00000000#32)))
            (broadcastInDim S1x2048x12x64 ![] h₄ (id (constant S_ .f32 0x00000000#32))) q))))
        (broadcastInDim S1x2048x12x64 ![] h₅ (constant S_ .f32 0x3F800000#32))) = featM (heads q) := by
  funext i j; simp only [heads, featM, feat]; pointwise
  by_cases h : 0 < q (ix4 0 i (headOf j) (entry j))
  · simp only [if_pos h]
    exact (if_pos h).symm
  · simp only [if_neg h]
    exact (exp_sub_one_add_one _).trans (if_neg h).symm

/-- Linear attention, with a reciprocal in the place of the quotient. -/
theorem seq_attention (q k v : FVec Ideal S1x2048x12x64 .f32) (h₀ h₁ h₂ h₃ h₄ h₅ h₆ h₇ h₈) :
    seq (n := 2048) (m := 768) (shapeCast S1x2048x768 (mulf (transpose S1x2048x12x64 [0, 3, 1, 2]
        (Host.dotGeneral dot_S1x12x64x64_S1x2048x12x64_S1x12x64x2048_3_3_2_1_01_02 none
          (Host.dotGeneral dot_S1x2048x12x64_S1x2048x12x64_S1x12x64x64_1_1_3_3_02_02 none v k) q) h₀)
        (broadcastInDim S1x2048x12x64 ![0, 1, 2, 3] h₁ (broadcastInDim S1x2048x12x1 ![0, 1, 2] h₂
          (Host.divf (broadcastInDim S1x2048x12 ![] h₃ (constant S_ .f32 0x3F800000#32))
            (addf (transpose S1x2048x12 [0, 2, 1] (Host.dotGeneral dot_S1x12x64_S1x2048x12x64_S1x12x2048_2_3_n_1_01_02 none
                (Host.reduceAdd (axes := ([1] : List (Fin 4))) k (constant S_ .f32 0x00000000#32) h₄ h₅) q) h₆)
              (broadcastInDim S1x2048x12 ![] h₇ (constant S_ .f32 0x358637BD#32))))))) h₈)
      = fun i j => num (heads q) (heads k) (heads v) i j * Ideal.div 1 (den (heads q) (heads k) i j + epsDen) := by
  funext i j; simp only [seq, num, den, state, keySum, heads, epsDen, headOf_col, entry_col]; pointwise
  simp only [mul_comm (q _)]
  congr 1
  refine Finset.sum_congr rfl fun x _ => congrArg (· * _) (Finset.sum_congr rfl fun t _ => mul_comm _ _)

/-- The normalisation of every row. -/
theorem seq_norm (y : FVec Ideal S1x2048x768 .f32) (g b : FVec Ideal S768 .f32) (h₀ h₁ h₂ h₃ h₄ h₅ h₆ h₇ h₈ h₉ h₁₀ h₁₁ h₁₂ h₁₃ h₁₄ h₁₅)
    (mu : FVec Ideal S1x2048x1 .f32)
    (hmu : mu = Host.divf (broadcastInDim S1x2048x1 ![0, 1] (s := S1x2048) h₀ (Host.reduceAdd (axes := ([2] : List (Fin 3))) y (constant S_ .f32 0x00000000#32) h₁ h₂))
      (broadcastInDim S1x2048x1 ![] h₃ (constant S_ .f32 0x44400000#32)))
    (d : FVec Ideal S1x2048x768 .f32)
    (hd : d = subf y (broadcastInDim S1x2048x768 ![0, 1, 2] h₄ mu)) :
    seq (n := 2048) (m := 768) (addf (mulf (Host.divf (subf y (broadcastInDim S1x2048x768 ![0, 1, 2] h₅ mu))
        (broadcastInDim S1x2048x768 ![0, 1, 2] h₆ (Host.sqrt (addf (Host.divf (broadcastInDim S1x2048x1 ![0, 1] (s := S1x2048) h₇
          (Host.reduceAdd (axes := ([2] : List (Fin 3))) (mulf d d) (constant S_ .f32 0x00000000#32) h₈ h₉))
          (broadcastInDim S1x2048x1 ![] h₁₀ (constant S_ .f32 0x44400000#32)))
          (broadcastInDim S1x2048x1 ![] h₁₁ (constant S_ .f32 0x3727C5AC#32))))))
        (broadcastInDim S1x2048x768 ![0, 1, 2] h₁₂ (broadcastInDim S1x1x768 ![2] h₁₃ g)))
        (broadcastInDim S1x2048x768 ![0, 1, 2] h₁₄ (broadcastInDim S1x1x768 ![2] h₁₅ b)))
      = fun i => normTwoPass (row g) (row b) (seq y i) := by
  subst hd hmu
  funext i j; simp only [seq, normTwoPass, mean, width, epsVar, row]; pointwise

end Enc.Ref

end
-- ==== Proof.AttentionFacts.lean ====
/-
  Linear attention's normaliser is never zero once the keys and queries are features, so a product with its reciprocal is
  the quotient. Nothing here needs finite entries.
-/
module

public import proofs.«01_k».proof.Proof.Model

@[expose] public section

noncomputable section

namespace Enc

open Idealize.ShloMosaic
open scoped BigOperators

/-- An exponential is never negative. -/
theorem exp_nonneg (t : EReal) : 0 ≤ Ideal.exp t := by
  induction t with
  | bot => exact le_refl _
  | top => exact le_top
  | coe r => exact EReal.coe_nonneg.2 (Real.exp_pos r).le

/-- A feature is never negative. -/
theorem feat_nonneg (t : EReal) : 0 ≤ feat t := by
  unfold feat
  split
  · rename_i h
    exact add_nonneg h.le zero_le_one
  · exact exp_nonneg t

/-- The number of columns is the real 768. -/
theorem width_real : width = ((768 : ℝ) : EReal) := by
  simp [width, Ideal.ofBits, Ideal.ieee, -EReal.coe_mul]; norm_num

/-- The number added to a variance, as a quotient. -/
theorem epsVar_real : epsVar = ((10995116 / 1099511627776 : ℝ) : EReal) := by
  simp [epsVar, Ideal.ofBits, Ideal.ieee, -EReal.coe_mul]; norm_num

/-- The number added to an attention normaliser, as a quotient. -/
theorem epsDen_real : epsDen = ((8796093 / 8796093022208 : ℝ) : EReal) := by
  simp [epsDen, Ideal.ofBits, Ideal.ieee, -EReal.coe_mul]; norm_num

/-- The number added to an attention normaliser is positive. -/
theorem epsDen_pos : 0 < epsDen := by
  rw [epsDen_real]
  exact EReal.coe_pos.2 (by norm_num)

/-- The attention normaliser of features is never negative. -/
theorem den_nonneg {n : ℕ} (q : Mat n 768) (k : Mat 2048 768) (i : Fin n) (j : Fin 768) : 0 ≤ den (featM q) (featM k) i j :=
  Finset.sum_nonneg fun _ _ => mul_nonneg (feat_nonneg _) (Finset.sum_nonneg fun _ _ => feat_nonneg _)

/-- The attention normaliser of features, with the small number added, is positive. -/
theorem den_pos {n : ℕ} (q : Mat n 768) (k : Mat 2048 768) (i : Fin n) (j : Fin 768) :
    0 < den (featM q) (featM k) i j + epsDen :=
  lt_of_lt_of_le epsDen_pos (le_add_of_nonneg_left (den_nonneg q k i j))

/-- A product with a reciprocal is a quotient, when the divisor is not zero. -/
theorem mul_recip (a b : EReal) (hb : b ≠ 0) : a * Ideal.div 1 b = Ideal.div a b := by
  simp only [Ideal.div, if_neg hb, one_mul]

/-- The attention on features, written with a reciprocal. -/
theorem attention_recip {n : ℕ} (q : Mat n 768) (k v : Mat 2048 768) :
    (fun i j => num (featM q) (featM k) v i j * Ideal.div 1 (den (featM q) (featM k) i j + epsDen))
      = attention (featM q) (featM k) v := by
  funext i j
  exact mul_recip _ _ (den_pos q k i j).ne'

end Enc

end
-- ==== Proof.RefValue.lean ====
/-
  The reference's result as a function of its arguments: its named intermediate arrays, one after the other, as matrices.
-/
module

public import proofs.«01_k».proof.Proof.RefOps
public import proofs.«01_k».proof.Proof.AttentionFacts
public import proofs.«01_k».proof.Proof.Gen.ReferenceIdeal.Run

@[expose] public section

set_option maxRecDepth 16384

noncomputable section

namespace Enc.Ref

open Cert.ReferenceIdeal Cert.ReferenceIdeal.Gen Cert.ReferenceIdeal.Value Idealize.ShloMosaic Idealize.ShloMosaic.TcCoe
open Idealize.SL.Sem Idealize.ShloMosaic.StableHlo

/-! ## Steps of a layer -/

/-- A projection, split into heads. -/
theorem heads_project (x : FVec Ideal S1x2048x768 .f32) (w : FVec Ideal S768x768 .f32) (b : FVec Ideal S768 .f32) (h₁ h₂ h₃) :
    heads (shapeCast S1x2048x12x64 (addf (Host.dotGeneral dot_S1x2048x768_S768x768_S1x2048x768_2_0_01_1_n_n none x w)
        (broadcastInDim S1x2048x768 ![0, 1, 2] h₁ (broadcastInDim S1x1x768 ![2] h₂ b))) h₃)
      = affine (seq x) (flat w) (row b) :=
  (heads_split _ _).trans (seq_affine_768_768 _ _ _ _ _)

/-- The attention's output, projected and added to the input. -/
theorem seq_attended (p : Weights) (ctx : Mat 2048 768) (x a : FVec Ideal S1x2048x768 .f32) (wo : FVec Ideal S768x768 .f32) (bo : FVec Ideal S768 .f32) (h₁ h₂)
    (ha : seq a = attention (featM (affine (seq x) p.Wq p.bq)) (featM (affine ctx p.Wk p.bk)) (affine ctx p.Wv p.bv))
    (hw : flat wo = p.Wo) (hb : row bo = p.bo) :
    seq (n := 2048) (m := 768) (addf x (addf (Host.dotGeneral dot_S1x2048x768_S768x768_S1x2048x768_2_0_01_1_n_n none a wo)
        (broadcastInDim S1x2048x768 ![0, 1, 2] h₁ (broadcastInDim S1x1x768 ![2] h₂ bo))))
      = attended p ctx (seq x) := by
  rw [seq_add, seq_affine_768_768, ha, hw, hb]
  rfl

/-- The feed-forward block's output, added to its input. -/
theorem seq_fed (p : Weights) (x : FVec Ideal S1x2048x768 .f32) (w₁ : FVec Ideal S768x1024 .f32) (b₁ : FVec Ideal S1024 .f32)
    (w₂ : FVec Ideal S1024x768 .f32) (b₂ : FVec Ideal S768 .f32) (h₁ h₂ h₃ h₄ h₅)
    (hw₁ : flat w₁ = p.W1) (hb₁ : row b₁ = p.b1) (hw₂ : flat w₂ = p.W2) (hb₂ : row b₂ = p.b2) :
    seq (n := 2048) (m := 768) (addf x (addf (Host.dotGeneral dot_S1x2048x1024_S1024x768_S1x2048x768_2_0_01_1_n_n none
        (maximumf (addf (Host.dotGeneral dot_S1x2048x768_S768x1024_S1x2048x1024_2_0_01_1_n_n none x w₁)
          (broadcastInDim S1x2048x1024 ![0, 1, 2] h₁ (broadcastInDim S1x1x1024 ![2] h₂ b₁)))
          (broadcastInDim S1x2048x1024 ![] h₃ (constant S_ .f32 0x00000000#32))) w₂)
        (broadcastInDim S1x2048x768 ![0, 1, 2] h₄ (broadcastInDim S1x1x768 ![2] h₅ b₂))))
      = fed p (seq x) := by
  rw [seq_add, seq_affine_1024_768, seq_relu, seq_affine_768_1024, hw₁, hb₁, hw₂, hb₂]
  rfl

/-! ## The arguments -/

variable (V0 : Valuation τ sig (Elt Ideal))

/-- The layer `ℓ`'s weights and biases, from the arguments. -/
def refWeights (ℓ : Fin 2) : Weights :=
  weightsOf ℓ (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg11))
    (V0 (Proc.devRef .tc main_arg12)) (V0 (Proc.devRef .tc main_arg13)) (V0 (Proc.devRef .tc main_arg14))

/-- The input's rows. -/
def refRows : Mat 2048 768 := rowsOf (V0 (Proc.devRef .tc main_arg0))

/-- A normalisation with the gains and offsets of the layer `ℓ`. -/
def normAt (ℓ : Fin 2) (g b : FVec Ideal S2x768 .f32) : (Fin 768 → EReal) → Fin 768 → EReal :=
  normTwoPass (leadRow ℓ g) (leadRow ℓ b)

/-- The layer `ℓ`'s normalisation after the attention. -/
def norm₁ (ℓ : Fin 2) : (Fin 768 → EReal) → Fin 768 → EReal :=
  normAt ℓ (V0 (Proc.devRef .tc main_arg9)) (V0 (Proc.devRef .tc main_arg10))

/-- The layer `ℓ`'s normalisation after the feed-forward block. -/
def norm₂ (ℓ : Fin 2) : (Fin 768 → EReal) → Fin 768 → EReal :=
  normAt ℓ (V0 (Proc.devRef .tc main_arg15)) (V0 (Proc.devRef .tc main_arg16))

/-- The last normalisation. -/
def norm₃ : (Fin 768 → EReal) → Fin 768 → EReal :=
  normTwoPass (row (V0 (Proc.devRef .tc main_arg17))) (row (V0 (Proc.devRef .tc main_arg18)))

/-! ## The first layer -/

/-- The queries' features. -/
theorem queries_0 : heads (res_main_v29 V0 : FVec Ideal S1x2048x12x64 .f32)
    = featM (affine (refRows V0) (refWeights V0 0).Wq (refWeights V0 0).bq) :=
  (heads_feature (res_main_v8 V0) _ _ _ _ _).trans (congrArg featM ((heads_project _ _ _ _ _ _).trans
    (congrArg₂ (affine _) (flat_768_768_0 _ _ _) (row_768_0 _ _ _))))

/-- The keys' features. -/
theorem keys_0 : heads (res_main_v32 V0 : FVec Ideal S1x2048x12x64 .f32)
    = featM (affine (refRows V0) (refWeights V0 0).Wk (refWeights V0 0).bk) :=
  (heads_feature (res_main_v17 V0) _ _ _ _ _).trans (congrArg featM ((heads_project _ _ _ _ _ _).trans
    (congrArg₂ (affine _) (flat_768_768_0 _ _ _) (row_768_0 _ _ _))))

/-- The input with the attention added. -/
theorem attended_0 : seq (res_main_v55 V0 : FVec Ideal S1x2048x768 .f32)
    = attended (refWeights V0 0) (refRows V0) (refRows V0) := by
  refine seq_attended (refWeights V0 0) (refRows V0) _ _ _ _ _ _ ?_ (flat_768_768_0 _ _ _) (row_768_0 _ _ _)
  refine (seq_attention _ _ _ _ _ _ _ _ _ _ _ _).trans ?_
  rw [queries_0, keys_0, attention_recip]
  exact congrArg (attention _ _) ((heads_project _ _ _ _ _ _).trans
    (congrArg₂ (affine _) (flat_768_768_0 _ _ _) (row_768_0 _ _ _)))

/-- The rows after the first normalisation. -/
theorem normed_0 : seq (res_main_v83 V0 : FVec Ideal S1x2048x768 .f32)
    = fun i => norm₁ V0 0 (attended (refWeights V0 0) (refRows V0) (refRows V0) i) := by
  refine (seq_norm _ _ _ _ _ _ _ _ _ _ _ _ _ _ _ _ _ _ _ _ rfl _ rfl).trans ?_
  rw [attended_0, row_768_0, row_768_0]
  rfl

/-- The layer's result. -/
theorem layer_0 : seq (res_main_v129 V0 : FVec Ideal S1x2048x768 .f32)
    = layer (norm₁ V0 0) (norm₂ V0 0) (refWeights V0 0) (refRows V0) (refRows V0) := by
  refine (seq_norm (res_main_v101 V0) _ _ _ _ _ _ _ _ _ _ _ _ _ _ _ _ _ _ _ rfl _ rfl).trans ?_
  have h : seq (res_main_v101 V0 : FVec Ideal S1x2048x768 .f32) = fed (refWeights V0 0) (seq (res_main_v83 V0 : FVec Ideal S1x2048x768 .f32)) :=
    seq_fed (refWeights V0 0) _ _ _ _ _ _ _ _ _ _ (flat_768_1024_0 _ _ _) (row_1024_0 _ _ _) (flat_1024_768_0 _ _ _)
      (row_768_0 _ _ _)
  rw [h, normed_0, row_768_0, row_768_0]
  rfl

/-! ## The second layer -/

/-- The queries' features. -/
theorem queries_1 : heads (res_main_v159 V0 : FVec Ideal S1x2048x12x64 .f32)
    = featM (affine (seq (res_main_v129 V0 : FVec Ideal S1x2048x768 .f32)) (refWeights V0 1).Wq (refWeights V0 1).bq) :=
  (heads_feature (res_main_v138 V0) _ _ _ _ _).trans (congrArg featM ((heads_project _ _ _ _ _ _).trans
    (congrArg₂ (affine _) (flat_768_768_1 _ _ _) (row_768_1 _ _ _))))

/-- The keys' features. -/
theorem keys_1 : heads (res_main_v162 V0 : FVec Ideal S1x2048x12x64 .f32)
    = featM (affine (seq (res_main_v129 V0 : FVec Ideal S1x2048x768 .f32)) (refWeights V0 1).Wk (refWeights V0 1).bk) :=
  (heads_feature (res_main_v147 V0) _ _ _ _ _).trans (congrArg featM ((heads_project _ _ _ _ _ _).trans
    (congrArg₂ (affine _) (flat_768_768_1 _ _ _) (row_768_1 _ _ _))))

/-- The input with the attention added. -/
theorem attended_1 : seq (res_main_v185 V0 : FVec Ideal S1x2048x768 .f32)
    = attended (refWeights V0 1) (seq (res_main_v129 V0 : FVec Ideal S1x2048x768 .f32)) (seq (res_main_v129 V0 : FVec Ideal S1x2048x768 .f32)) := by
  refine seq_attended (refWeights V0 1) (seq (res_main_v129 V0 : FVec Ideal S1x2048x768 .f32)) _ _ _ _ _ _ ?_ (flat_768_768_1 _ _ _) (row_768_1 _ _ _)
  refine (seq_attention _ _ _ _ _ _ _ _ _ _ _ _).trans ?_
  rw [queries_1, keys_1, attention_recip]
  exact congrArg (attention _ _) ((heads_project _ _ _ _ _ _).trans
    (congrArg₂ (affine _) (flat_768_768_1 _ _ _) (row_768_1 _ _ _)))

/-- The rows after the first normalisation. -/
theorem normed_1 : seq (res_main_v213 V0 : FVec Ideal S1x2048x768 .f32)
    = fun i => norm₁ V0 1 (attended (refWeights V0 1) (seq (res_main_v129 V0 : FVec Ideal S1x2048x768 .f32)) (seq (res_main_v129 V0 : FVec Ideal S1x2048x768 .f32)) i) := by
  refine (seq_norm _ _ _ _ _ _ _ _ _ _ _ _ _ _ _ _ _ _ _ _ rfl _ rfl).trans ?_
  rw [attended_1, row_768_1, row_768_1]
  rfl

/-- The layer's result. -/
theorem layer_1 : seq (res_main_v259 V0 : FVec Ideal S1x2048x768 .f32)
    = layer (norm₁ V0 1) (norm₂ V0 1) (refWeights V0 1) (seq (res_main_v129 V0 : FVec Ideal S1x2048x768 .f32)) (seq (res_main_v129 V0 : FVec Ideal S1x2048x768 .f32)) := by
  refine (seq_norm (res_main_v231 V0) _ _ _ _ _ _ _ _ _ _ _ _ _ _ _ _ _ _ _ rfl _ rfl).trans ?_
  have h : seq (res_main_v231 V0 : FVec Ideal S1x2048x768 .f32) = fed (refWeights V0 1) (seq (res_main_v213 V0 : FVec Ideal S1x2048x768 .f32)) :=
    seq_fed (refWeights V0 1) _ _ _ _ _ _ _ _ _ _ (flat_768_1024_1 _ _ _) (row_1024_1 _ _ _) (flat_1024_768_1 _ _ _)
      (row_768_1 _ _ _)
  rw [h, normed_1, row_768_1, row_768_1]
  rfl

/-! ## The result -/

/-- The reference's function of its arguments: two layers and the last normalisation. -/
def refEncoder : Mat 2048 768 := fun i =>
  norm₃ V0 (layer (norm₁ V0 1) (norm₂ V0 1) (refWeights V0 1)
    (layer (norm₁ V0 0) (norm₂ V0 0) (refWeights V0 0) (refRows V0) (refRows V0))
    (layer (norm₁ V0 0) (norm₂ V0 0) (refWeights V0 0) (refRows V0) (refRows V0)) i)

/-- The last normalisation, its leading axis dropped. -/
theorem flat_norm (g b : FVec Ideal S768 .f32) (h₁ h₂ h₃ h₄ h₅ h₆ h₇ h₈ h₉ h₁₀ h₁₁ h₁₂) :
    flat (n := 2048) (m := 768) (shapeCast S2048x768 (addf (mulf (Host.divf (subf (res_main_v259 V0 : FVec Ideal S1x2048x768 .f32)
        (broadcastInDim S1x2048x768 ![0, 1, 2] h₁ (res_main_v263 V0 : FVec Ideal S1x2048x1 .f32)))
        (broadcastInDim S1x2048x768 ![0, 1, 2] h₂ (Host.sqrt (addf (Host.divf (broadcastInDim S1x2048x1 ![0, 1] (s := S1x2048) h₃
          (Host.reduceAdd (axes := ([2] : List (Fin 3))) (mulf (res_main_v265 V0 : FVec Ideal S1x2048x768 .f32) (res_main_v265 V0)) (constant S_ .f32 0x00000000#32) h₄ h₅))
          (broadcastInDim S1x2048x1 ![] h₆ (constant S_ .f32 0x44400000#32)))
          (broadcastInDim S1x2048x1 ![] h₇ (constant S_ .f32 0x3727C5AC#32))))))
        (broadcastInDim S1x2048x768 ![0, 1, 2] h₈ (broadcastInDim S1x1x768 ![2] h₉ g)))
        (broadcastInDim S1x2048x768 ![0, 1, 2] h₁₀ (broadcastInDim S1x1x768 ![2] h₁₁ b))) h₁₂)
      = fun i => normTwoPass (row g) (row b) (seq (res_main_v259 V0 : FVec Ideal S1x2048x768 .f32) i) :=
  (flat_drop _ _).trans (seq_norm (res_main_v259 V0) _ _ _ _ _ _ _ _ _ _ _ _ _ _ _ _ _ _ _ rfl _ rfl)

/-- The reference's run: its result array holds `refEncoder`, and its arguments are kept. -/
theorem run_value (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      flat (r.2.mem ((c.tc : Thread nD τ).loc main_v284) : FVec Ideal S2048x768 .f32) = refEncoder (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) := by
  refine (θ_run _ _ _).mono (fun r h c => ?_) (run m ρ)
  refine ⟨?_, (h c).2⟩
  rw [(h c).1]
  refine (flat_norm _ _ _ _ _ _ _ _ _ _ _ _ _ _ _).trans ?_
  rw [layer_1, layer_0]
  rfl

end Enc.Ref

end
-- ==== Proof.RealFacts.lean ====
/-
  On real rows the two normalisations agree: the mean of the squared distances to the mean is the mean square less the
  squared mean, and a product with a reciprocal root is a quotient by the root. And every step of the encoder takes real
  entries to real entries, so they agree wherever the encoder uses them.
-/
module

public import proofs.«01_k».proof.Proof.AttentionFacts

@[expose] public section

noncomputable section

namespace Enc

open Idealize.ShloMosaic
open scoped BigOperators

/-! ## Real entries -/

/-- An extended real that is a real number. -/
def IsReal (x : EReal) : Prop := ∃ r : ℝ, x = (r : EReal)

/-! Sums, products, the larger of two and finite sums of reals are real, as are zero and one. -/

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.zero : IsReal 0 := ⟨0, EReal.coe_zero.symm⟩

theorem IsReal.one : IsReal 1 := ⟨1, EReal.coe_one.symm⟩

theorem IsReal.max {x y : EReal} (hx : IsReal x) (hy : IsReal y) : IsReal (max x y) := by
  rcases max_choice x y with h | h <;> rw [h] <;> assumption

theorem IsReal.sum {ι : Type} [Fintype ι] {f : ι → EReal} (h : ∀ i, IsReal (f i)) : IsReal (∑ i, f i) :=
  Finset.sum_induction f IsReal (fun _ _ => IsReal.add) IsReal.zero fun i _ => h i

/-- A quotient of reals by a positive divisor is real. -/
theorem IsReal.div {x y : EReal} : IsReal x → IsReal y → 0 < y → IsReal (Ideal.div x y)
  | ⟨a, ha⟩, ⟨b, hb⟩, hy => by
    subst ha hb
    exact ⟨a * (1 / b), by rw [Ideal.div_coe (EReal.coe_pos.1 hy).ne', EReal.coe_mul]⟩

/-- A feature of a real is real. -/
theorem IsReal.feat {t : EReal} (h : IsReal t) : IsReal (feat t) := by
  unfold Enc.feat
  split
  · exact h.add .one
  · obtain ⟨r, rfl⟩ := h
    exact ⟨Real.exp r, rfl⟩

/-! ## The two normalisations -/

/-- The mean of a real row. -/
def rMean (r : Fin 768 → ℝ) : ℝ := (∑ j, r j) * (1 / 768)

/-- The mean of the squared distances to the mean. -/
def rVar (r : Fin 768 → ℝ) : ℝ := rMean fun t => (r t - rMean r) * (r t - rMean r)

/-- The number added to a variance. -/
def rEps : ℝ := 10995116 / 1099511627776

/-- A real row, normalised. -/
def rNorm (r : Fin 768 → ℝ) (j : Fin 768) : ℝ := (r j - rMean r) * (Real.sqrt (rVar r + rEps))⁻¹

/-- The mean of a real row is its mean among the reals. -/
theorem mean_real (r : Fin 768 → ℝ) : mean (fun j => (r j : EReal)) = (rMean r : EReal) := by
  have h : (∑ j, (r j : EReal)) = ((∑ j, r j : ℝ) : EReal) := (map_sum (⟨⟨_, EReal.coe_zero⟩, EReal.coe_add⟩ : ℝ →+ EReal) r _).symm
  rw [mean, width_real, Ideal.div_coe (by norm_num), h, rMean, EReal.coe_mul]

/-- The mean square less the squared mean is the mean of the squared distances to the mean. -/
theorem var_eq (r : Fin 768 → ℝ) : rMean (fun t => r t * r t) - rMean r * rMean r = rVar r := by
  have h : ∀ c : ℝ, (∑ t, (r t - c) * (r t - c)) = (∑ t, r t * r t) - 2 * c * (∑ t, r t) + 768 * (c * c) := by
    intro c
    have : ∀ t, (r t - c) * (r t - c) = r t * r t - 2 * c * r t + c * c := fun t => by ring
    simp only [this, Finset.sum_add_distrib, Finset.sum_sub_distrib, ← Finset.mul_sum, Finset.sum_const, Finset.card_univ,
      Fintype.card_fin, nsmul_eq_mul]
    norm_num
    ring
  rw [rVar]
  simp only [rMean, h]
  ring

/-- The mean of the squared distances, with the small number added, is positive. -/
theorem var_pos (r : Fin 768 → ℝ) : 0 < rVar r + rEps := by
  have h : 0 ≤ rVar r := mul_nonneg (Finset.sum_nonneg fun t _ => mul_self_nonneg _) (by norm_num)
  have : 0 < rEps := by norm_num [rEps]
  linarith

/-- The kernel's normalisation of a real row. -/
theorem normOnePass_real (r : Fin 768 → ℝ) : normOnePass (fun j => (r j : EReal)) = fun j => (rNorm r j : EReal) := by
  funext j
  have hp := var_pos r
  have hs : mean (fun t => (r t : EReal) * (r t : EReal)) = (rMean (fun t => r t * r t) : EReal) := by
    simp only [← EReal.coe_mul]
    exact mean_real _
  rw [normOnePass, hs, mean_real, epsVar_real, ← EReal.coe_mul, ← EReal.coe_sub, ← EReal.coe_sub, var_eq, ← EReal.coe_add,
    rNorm, EReal.coe_mul]
  congr 1
  rw [show (10995116 / 1099511627776 : ℝ) = rEps from rfl]
  show (if rVar r + rEps < 0 then ⊥ else if rVar r + rEps = 0 then ⊤ else _) = _
  rw [if_neg hp.not_gt, if_neg hp.ne']

/-- The reference's normalisation of a real row, at gain one and offset zero. -/
theorem normTwoPass_real (r : Fin 768 → ℝ) :
    normTwoPass (fun _ => 1) (fun _ => 0) (fun j => (r j : EReal)) = fun j => (rNorm r j : EReal) := by
  funext j
  have hp := var_pos r
  have hs : mean (fun t => ((r t : EReal) - (rMean r : EReal)) * ((r t : EReal) - (rMean r : EReal))) = (rVar r : EReal) := by
    simp only [← EReal.coe_sub, ← EReal.coe_mul]
    exact mean_real _
  have hq : Ideal.sqrt (((rVar r + rEps : ℝ)) : EReal) = (Real.sqrt (rVar r + rEps) : EReal) := by
    show (if rVar r + rEps < 0 then ⊥ else _) = _
    rw [if_neg hp.not_gt]
  rw [normTwoPass, mean_real, hs, epsVar_real, ← EReal.coe_add, show (10995116 / 1099511627776 : ℝ) = rEps from rfl, hq,
    Ideal.div_coe (Real.sqrt_pos.2 hp).ne', mul_one, add_zero, ← EReal.coe_sub, ← EReal.coe_mul, rNorm, one_div]

/-- On a real row the two normalisations agree. -/
theorem norm_agree (r : Fin 768 → EReal) (h : ∀ j, IsReal (r j)) : normTwoPass (fun _ => 1) (fun _ => 0) r = normOnePass r := by
  choose f hf using h
  rw [show r = fun j => (f j : EReal) from funext hf, normTwoPass_real, normOnePass_real]

/-- A real row, normalised, is real. -/
theorem norm_isReal (r : Fin 768 → EReal) (h : ∀ j, IsReal (r j)) (j : Fin 768) : IsReal (normOnePass r j) := by
  choose f hf using h
  rw [show r = fun j => (f j : EReal) from funext hf, normOnePass_real]
  exact ⟨_, rfl⟩

/-! ## The encoder's steps -/

/-- A matrix of reals. -/
def RealM {n m : ℕ} (a : Mat n m) : Prop := ∀ i j, IsReal (a i j)

/-- A product with a real weight and a real bias. -/
theorem affine_real {n k m : ℕ} {x : Mat n k} {w : Mat k m} {b : Fin m → EReal} (hx : RealM x) (hw : RealM w)
    (hb : ∀ j, IsReal (b j)) : RealM (affine x w b) :=
  fun i j => (IsReal.sum fun t => (hx i t).mul (hw t j)).add (hb j)

/-- Attention on features of reals. -/
theorem attention_real {n : ℕ} {q : Mat n 768} {k v : Mat 2048 768} (hq : RealM q) (hk : RealM k) (hv : RealM v) :
    RealM (attention (featM q) (featM k) v) := fun i j =>
  IsReal.div (IsReal.sum fun d => (hq _ _).feat.mul (IsReal.sum fun s => (hk _ _).feat.mul (hv _ _)))
    ((IsReal.sum fun d => (hq _ _).feat.mul (IsReal.sum fun s => (hk _ _).feat)).add ⟨_, epsDen_real⟩) (den_pos q k i j)

/-- A layer's parameters are all reals. -/
structure Weights.Real (p : Weights) : Prop where
  Wq : RealM p.Wq
  bq : ∀ j, IsReal (p.bq j)
  Wk : RealM p.Wk
  bk : ∀ j, IsReal (p.bk j)
  Wv : RealM p.Wv
  bv : ∀ j, IsReal (p.bv j)
  Wo : RealM p.Wo
  bo : ∀ j, IsReal (p.bo j)
  W1 : RealM p.W1
  b1 : ∀ j, IsReal (p.b1 j)
  W2 : RealM p.W2
  b2 : ∀ j, IsReal (p.b2 j)

/-- Real rows with the attention added. -/
theorem attended_real {n : ℕ} {p : Weights} (hp : p.Real) {ctx : Mat 2048 768} {x : Mat n 768} (hc : RealM ctx)
    (hx : RealM x) : RealM (attended p ctx x) := fun i j =>
  (hx i j).add (affine_real (attention_real (affine_real hx hp.Wq hp.bq) (affine_real hc hp.Wk hp.bk)
    (affine_real hc hp.Wv hp.bv)) hp.Wo hp.bo i j)

/-- Real rows with the feed-forward block added. -/
theorem fed_real {n : ℕ} {p : Weights} (hp : p.Real) {h : Mat n 768} (hh : RealM h) : RealM (fed p h) := fun i j =>
  (hh i j).add (affine_real (fun a b => (affine_real hh hp.W1 hp.b1 a b).max .zero) hp.W2 hp.b2 i j)

/-- A layer of real rows, with either normalisation. -/
theorem layer_agree {n : ℕ} {p : Weights} (hp : p.Real) {ctx : Mat 2048 768} {x : Mat n 768} (hc : RealM ctx) (hx : RealM x) :
    layer (normTwoPass (fun _ => 1) fun _ => 0) (normTwoPass (fun _ => 1) fun _ => 0) p ctx x
      = layer normOnePass normOnePass p ctx x := by
  have ha : (fun a => normTwoPass (fun _ => 1) (fun _ => 0) (attended p ctx x a)) = fun a => normOnePass (attended p ctx x a) :=
    funext fun a => norm_agree _ (attended_real hp hc hx a)
  funext i
  rw [layer, layer, ha]
  exact norm_agree _ (fed_real hp (fun a => norm_isReal _ (attended_real hp hc hx a)) i)

/-- A layer of real rows is real. -/
theorem layer_real {n : ℕ} {p : Weights} (hp : p.Real) {ctx : Mat 2048 768} {x : Mat n 768} (hc : RealM ctx) (hx : RealM x) :
    RealM (layer normOnePass normOnePass p ctx x) := fun i =>
  norm_isReal _ (fed_real hp (fun a => norm_isReal _ (attended_real hp hc hx a)) i)

/-- The encoder with the reference's normalisation at gain one and offset zero is the encoder with the kernel's. -/
theorem encoder_agree {p₀ p₁ : Weights} (h₀ : p₀.Real) (h₁ : p₁.Real) {x : Mat 2048 768} (hx : RealM x)
    (N : (Fin 768 → EReal) → Fin 768 → EReal) (hN : N = normTwoPass (fun _ => 1) fun _ => 0) :
    (fun i => N (layer N N p₁ (layer N N p₀ x x) (layer N N p₀ x x) i)) = encoder p₀ p₁ x := by
  subst hN
  have hl := layer_real h₀ hx hx
  rw [layer_agree h₀ hx hx, layer_agree h₁ hl hl]
  exact funext fun i => norm_agree _ (layer_real h₁ hl hl i)

end Enc

end
-- ==== Proof.Precondition.lean ====
/-
  What the precondition says of the arguments' entries: the input, the weights and the biases are real numbers, the
  normalisations' gains are one and their offsets zero.
-/
module

public import proofs.«01_k».proof.Proof.RealFacts
public import proofs.«01_k».proof.Proof.Gen.Pre_finite_unit_gains
public import Idealize.ShloMosaic.Lib.ReduceAll
public import Idealize.ShloMosaic.Lib.IdealHost
public import Idealize.ShloMosaic.Lib.Pointwise

@[expose] public section

noncomputable section

namespace Enc.Pre

open Cert.Pre_finite_unit_gains Idealize.ShloMosaic

/-- The bits that the precondition takes for infinity are the top element. -/
theorem inf_bits : Ideal.ofBits .f32 0x7F800000#32 = ⊤ := by
  simp [Ideal.ofBits, Ideal.ieee]

/-- An entry whose absolute value compares below infinity is real. -/
theorem real_of_abs_lt (t : EReal) (h : Ideal.cmp .olt (max t (-t)) (Ideal.ofBits .f32 0x7F800000#32) = 1#1) : IsReal t := by
  rw [inf_bits] at h
  induction t with
  | coe r => exact ⟨r, rfl⟩
  | top => simp [Ideal.cmp] at h
  | bot => simp [Ideal.cmp] at h

/-- Two entries that compare equal are equal. -/
theorem eq_of_cmp (a b : EReal) (h : Ideal.cmp .oeq a b = 1#1) : a = b := by
  by_contra hne
  simp [Ideal.cmp, hne] at h

variable {s : Shape} {axes : List (Fin s.rank)}

/-- An array whose finiteness test gives one holds reals. -/
theorem reals (x : FVec Ideal s .f32) (h₁ : S_.BroadcastsInDim s ![]) (c : IVec S_ 1) (h₂ : s.ReducesTo axes S_) (h₃)
    (e : Host.reduce IntOp.andi (cmpf .olt (Host.absf x) (broadcastInDim s ![] h₁ (constant S_ .f32 0x7F800000#32))) c h₂ h₃ ix0 = 1#1)
    (i : s.Idx) : IsReal (x i) :=
  haveI : Subsingleton S_.Idx := ⟨fun a b => funext fun k => k.elim0⟩
  real_of_abs_lt _ (Host.reduce_andi_all _ _ _ _ _ e i)

/-- An array whose comparison with a constant gives one holds that constant. -/
theorem constants (x : FVec Ideal s .f32) (b : BitVec 32) (h₁ : S_.BroadcastsInDim s ![]) (c : IVec S_ 1) (h₂ : s.ReducesTo axes S_) (h₃)
    (e : Host.reduce IntOp.andi (cmpf .oeq x (broadcastInDim s ![] h₁ (constant S_ .f32 b))) c h₂ h₃ ix0 = 1#1)
    (i : s.Idx) : x i = Ideal.ofBits .f32 b :=
  haveI : Subsingleton S_.Idx := ⟨fun a b => funext fun k => k.elim0⟩
  eq_of_cmp _ _ (Host.reduce_andi_all _ _ _ _ _ e i)

variable [Facts]

/-- What the precondition says of the arguments, entry by entry. -/
theorem reads (a0 : FVec Ideal S1x2048x768 .f32) (a1 : FVec Ideal S2x768x768 .f32) (a2 : FVec Ideal S2x768 .f32) (a3 : FVec Ideal S2x768x768 .f32)
    (a4 : FVec Ideal S2x768 .f32) (a5 : FVec Ideal S2x768x768 .f32) (a6 : FVec Ideal S2x768 .f32) (a7 : FVec Ideal S2x768x768 .f32)
    (a8 : FVec Ideal S2x768 .f32) (a9 : FVec Ideal S2x768 .f32) (a10 : FVec Ideal S2x768 .f32) (a11 : FVec Ideal S2x768x1024 .f32)
    (a12 : FVec Ideal S2x1024 .f32) (a13 : FVec Ideal S2x1024x768 .f32) (a14 : FVec Ideal S2x768 .f32) (a15 : FVec Ideal S2x768 .f32)
    (a16 : FVec Ideal S2x768 .f32) (a17 : FVec Ideal S768 .f32) (a18 : FVec Ideal S768 .f32)
    (h : fn (F := Ideal) a0 a1 a2 a3 a4 a5 a6 a7 a8 a9 a10 a11 a12 a13 a14 a15 a16 a17 a18 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i))
      ∧ (∀ i, IsReal (a11 i)) ∧ (∀ i, IsReal (a12 i)) ∧ (∀ i, IsReal (a13 i)) ∧ (∀ i, IsReal (a14 i))
      ∧ (∀ i, a9 i = 1) ∧ (∀ i, a15 i = 1) ∧ (∀ i, a17 i = 1) ∧ (∀ i, a10 i = 0) ∧ (∀ i, a16 i = 0) ∧ (∀ i, a18 i = 0) := by
  have e := congrFun h ix0
  dsimp only [fn, fn_part1, fn_part2, fn_part3, fn_part4, fn_part5] at e
  obtain ⟨e, hbias⟩ := IntOp.andi_eq_one.1 e
  obtain ⟨e, hgain⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e, h1⟩ := IntOp.andi_eq_one.1 e
  obtain ⟨hgain, h17⟩ := IntOp.andi_eq_one.1 hgain
  obtain ⟨h9, h15⟩ := IntOp.andi_eq_one.1 hgain
  obtain ⟨hbias, h18⟩ := IntOp.andi_eq_one.1 hbias
  obtain ⟨h10, h16⟩ := IntOp.andi_eq_one.1 hbias
  exact ⟨reals _ _ _ _ _ e, reals _ _ _ _ _ h1, reals _ _ _ _ _ h2, reals _ _ _ _ _ h3, reals _ _ _ _ _ h4, reals _ _ _ _ _ h5, reals _ _ _ _ _ h6, reals _ _ _ _ _ h7, reals _ _ _ _ _ h8, reals _ _ _ _ _ h11, reals _ _ _ _ _ h12, reals _ _ _ _ _ h13, reals _ _ _ _ _ h14,
    fun i => (constants _ _ _ _ _ _ h9 i).trans Ideal.ofBits_one_f32, fun i => (constants _ _ _ _ _ _ h15 i).trans Ideal.ofBits_one_f32, fun i => (constants _ _ _ _ _ _ h17 i).trans Ideal.ofBits_one_f32,
    fun i => (constants _ _ _ _ _ _ h10 i).trans Ideal.ofBits_zero_f32, fun i => (constants _ _ _ _ _ _ h16 i).trans Ideal.ofBits_zero_f32, fun i => (constants _ _ _ _ _ _ h18 i).trans Ideal.ofBits_zero_f32⟩

end Enc.Pre

end
-- ==== Proof.Equation.lean ====
/-
  Under the precondition the reference's result is the encoder's value that the kernel leaves, on equal arguments.
-/
module

public import proofs.«01_k».proof.Defs
public import proofs.«01_k».proof.Proof.KernelValue
public import proofs.«01_k».proof.Proof.RefValue
public import proofs.«01_k».proof.Proof.Precondition

@[expose] public section

noncomputable section

namespace Enc

open Idealize.ShloMosaic Idealize.ShloMosaic.TcCoe Idealize.SL.Sem Idealize.ShloMosaic.StableHlo

namespace Ref

open Cert.ReferenceIdeal

variable (V0 : Valuation τ sig (Elt Ideal))

/-- Under the precondition the reference's result is the encoder's value on its arguments. -/
theorem encoder_value
    (h : Cert.Pre_finite_unit_gains.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) = fun _ => 1#1) :
    refEncoder V0 = encoder (refWeights V0 0) (refWeights V0 1) (refRows V0) := by
  obtain ⟨h0, h1, h2, h3, h4, h5, h6, h7, h8, h11, h12, h13, h14, h9, h15, h17, h10, h16, h18⟩ := Pre.reads _ _ _ _ _ _ _ _ _ _ _ _ _ _ _ _ _ _ _ h
  have hw : ∀ ℓ, (refWeights V0 ℓ).Real := fun ℓ =>
    ⟨fun _ _ => h1 _, fun _ => h2 _, fun _ _ => h3 _, fun _ => h4 _, fun _ _ => h5 _, fun _ => h6 _, fun _ _ => h7 _,
      fun _ => h8 _, fun _ _ => h11 _, fun _ => h12 _, fun _ _ => h13 _, fun _ => h14 _⟩
  have e₁ : ∀ ℓ, norm₁ V0 ℓ = normTwoPass (fun _ => 1) fun _ => 0 := fun ℓ =>
    congrArg₂ normTwoPass (funext fun _ => h9 _) (funext fun _ => h10 _)
  have e₂ : ∀ ℓ, norm₂ V0 ℓ = normTwoPass (fun _ => 1) fun _ => 0 := fun ℓ =>
    congrArg₂ normTwoPass (funext fun _ => h15 _) (funext fun _ => h16 _)
  have e₃ : norm₃ V0 = normTwoPass (fun _ => 1) fun _ => 0 :=
    congrArg₂ normTwoPass (funext fun _ => h17 _) (funext fun _ => h18 _)
  unfold refEncoder
  rw [e₁, e₁, e₂, e₂, e₃]
  exact encoder_agree (hw 0) (hw 1) (fun _ _ => h0 _) _ rfl

end Ref

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- On equal arguments that meet the precondition, the array that the kernel leaves is the reference's result. -/
theorem results_agree (hp : Cert.Pre_KernelIdeal_finite_unit_gains m) (c : Dev Cert.KernelIdeal.nD)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (z : FVec Ideal Cert.ReferenceIdeal.S2048x768 .f32)
    (hz : Ref.flat z = Ref.refEncoder (launchContents m' c)) :
    z = ((Cert.KernelIdeal.Gen.dats m 0 c).arrAt 13 Cert.KernelIdeal.cfg0.N : Vec Ideal Cert.KernelIdeal.S2048x768 .f32) := by
  obtain ⟨a0, a1, a2, a3, a4, a5, a6, a7, a8, a9, a10, a11, a12, a13, a14, a15, a16, a17, a18⟩ := ha
  have hf := hp c
  rw [← a0, ← a1, ← a2, ← a3, ← a4, ← a5, ← a6, ← a7, ← a8, ← a9, ← a10, ← a11, ← a12, ← a13, ← a14, ← a15, ← a16, ← a17, ← a18] at hf
  have hw : ∀ ℓ, Ref.refWeights (launchContents m' c) ℓ = argWeights m ℓ c := fun ℓ => by
    unfold argWeights
    rw [← a1, ← a2, ← a3, ← a4, ← a5, ← a6, ← a7, ← a8, ← a11, ← a12, ← a13, ← a14]
    rfl
  have hx : Ref.refRows (launchContents m' c)
      = rowsOf (m ((c.tc : Thread Cert.KernelIdeal.nD Cert.KernelIdeal.τ).loc Cert.KernelIdeal.main_arg0)) := by
    rw [← a0]
    rfl
  have hv := Ref.encoder_value (launchContents m' c) hf
  rw [hw, hw, hx] at hv
  funext i
  rw [← ix2_eta (n0 := 2048) (n1 := 768) i]
  refine Eq.trans ?_ (array_value m c (i 0) (i 1)).symm
  exact congrFun (congrFun (hz.trans hv) (i 0)) (i 1)

end Enc

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_unit_gains
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run keeps its arguments, and the reference declares no semaphore. -/
theorem reference_frame : Cert.quiescent_ReferenceIdeal := fun m g _ =>
  (θ_run _ _ _).mono (fun r h => ⟨fun c => (h c).2, sem_eq_zero_of_no_sems (by decide) r.2⟩) (Enc.Ref.run_value m g)

/-- On equal arguments that meet the precondition, the two runs leave one array. -/
theorem equal_results : Cert.algebraic_KernelIdeal_ReferenceIdeal_pre_finite_unit_gains := fun m g m' g' hp ha =>
  ⟨fun c => (Cert.KernelIdeal.Gen.dats m 0 c).arrAt 13 Cert.KernelIdeal.cfg0.N,
    Cert.KernelIdeal.Value.run_blocks m g,
    (θ_run _ _ _).mono (fun _ h c => ⟨Enc.results_agree m m' hp c (ha c) _ (h c).1, (h c).2⟩) (Enc.Ref.run_value m' g')⟩

theorem claim : Cert.Claim := ⟨Cert.Kernel.Gen.facts, Cert.KernelIdeal.Gen.facts, Cert.ReferenceIdeal.Gen.facts,
  Cert.Pre_finite_unit_gains.Gen.facts, fun m g _ => Cert.Kernel.Gen.frame m g, fun m g _ => Cert.KernelIdeal.Gen.frame m g,
  fun m g _ => Cert.KernelIdeal.Gen.frame m g, reference_frame, fun m g _ => reference_frame m g trivial, trivial, equal_results⟩

end Cert.Proof

end
